-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gap [hPre_gap : Cert.Pre_gap.Facts] (m : (ℓ : Loc Cert.KernelIdeal.nD Cert.KernelIdeal.τ Cert.KernelIdeal.sig) → Buf (Elt Ideal) ℓ) : Prop :=
  ∀ c : Dev Cert.KernelIdeal.nD,
    (Cert.Pre_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gap [hPre_gap : Cert.Pre_gap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gap [hKernelIdeal : Cert.KernelIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gap [hReferenceIdeal : Cert.ReferenceIdeal.Facts] [hPre_gap : Cert.Pre_gap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gap [hKernelIdeal : Cert.KernelIdeal.Facts] [hReferenceIdeal : Cert.ReferenceIdeal.Facts] [hPre_gap : Cert.Pre_gap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gap : Cert.Pre_gap.Facts),
    quiescent_Kernel (hKernel := hKernel)
    ∧ quiescent_KernelIdeal (hKernelIdeal := hKernelIdeal)
    ∧ quiescent_KernelIdeal_pre_gap (hKernelIdeal := hKernelIdeal) (hPre_gap := hPre_gap)
    ∧ quiescent_ReferenceIdeal (hReferenceIdeal := hReferenceIdeal)
    ∧ quiescent_ReferenceIdeal_pre_gap (hReferenceIdeal := hReferenceIdeal) (hPre_gap := hPre_gap)
    ∧ preserves_Kernel_KernelIdeal
    ∧ algebraic_KernelIdeal_ReferenceIdeal_pre_gap (hKernelIdeal := hKernelIdeal) (hReferenceIdeal := hReferenceIdeal) (hPre_gap := hPre_gap)
-- ==== Pre_gap.lean ====
abbrev S65536 : Shape := ⟨1, ![65536]⟩
abbrev S32x1024x1000 : Shape := ⟨3, ![32, 1024, 1000]⟩
abbrev S1000x64 : Shape := ⟨2, ![1000, 64]⟩
abbrev S1000x1000 : Shape := ⟨2, ![1000, 1000]⟩
abbrev S1000x1 : Shape := ⟨2, ![1000, 1]⟩
abbrev S_ : Shape := ⟨0, ![]⟩
abbrev S1000 : Shape := ⟨1, ![1000]⟩

class Facts : Prop where
  sliceFits_S1000x1000_S1000x64 : S1000x1000.Slices (fun _ => 0) S1000x64
  slices_S1000x64_S1000x1_0_63 : S1000x64.Slices ![0, 63] S1000x1
  reducesTo_S1000x1000_S1000_d1 : S1000x1000.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S_S1000x1000 : S_.BroadcastsInDim S1000x1000 (![] : Fin 0 → Fin S1000x1000.rank)
  bcast_S1000x1_S1000x1000_0_1 : S1000x1.BroadcastsInDim S1000x1000 (![0, 1] : Fin 2 → Fin S1000x1000.rank)

variable [Facts]

def fn_part2 {F : FTy → Type} [FloatOps F] (main_arg5 : FVec F S1000x1000 .f32) (main_v20 : IVec S1000x1000 1) (main_v21 : FVec F S1000x1 .f32) (main_v30 : FVec F S1000x1 .f32) (main_v33 : IVec S1000x1000 1) : IVec S1000x1000 1 :=
  let main_v34 : FVec F S1000x1000 .f32 := broadcastInDim S1000x1000 ![0, 1] bcast_S1000x1_S1000x1000_0_1 main_v21
  let main_v35 : IVec S1000x1000 1 := cmpf .oge main_arg5 main_v34
  let main_v36 : FVec F S1000x1000 .f32 := broadcastInDim S1000x1000 ![0, 1] bcast_S1000x1_S1000x1000_0_1 main_v30
  let main_v37 : FVec F S1000x1000 .f32 := addf main_arg5 main_v36
  let main_v38 : FVec F S1000x1000 .f32 := broadcastInDim S1000x1000 ![0, 1] bcast_S1000x1_S1000x1000_0_1 main_v21
  let main_v39 : IVec S1000x1000 1 := cmpf .ole main_v37 main_v38
  let main_v40 : IVec S1000x1000 1 := ori main_v35 main_v39
  let main_v41 : IVec S1000x1000 1 := andi main_v33 main_v40
  let main_v42 : IVec S1000x1000 1 := andi main_v20 main_v41
  main_v42

def fn_part1 {F : FTy → Type} [FloatOps F] (main_arg5 : FVec F S1000x1000 .f32) (main_v0 : FVec F S1000x1 .f32) (main_v12 : IVec S1000x1000 1) (main_v14 : IVec S1000x1000 1) (main_v16 : FVec F S1000x1000 .f32) : IVec S1000x1000 1 :=
  let main_v17 : FVec F S1000x1000 .f32 := broadcastInDim S1000x1000 ![0, 1] bcast_S1000x1_S1000x1000_0_1 main_v0
  let main_v18 : IVec S1000x1000 1 := cmpf .ole main_v16 main_v17
  let main_v19 : IVec S1000x1000 1 := ori main_v14 main_v18
  let main_v20 : IVec S1000x1000 1 := andi main_v12 main_v19
  let main_values_4 : FVec F S1000x64 .f32 := (fun x => (Host.topK S1000x64 1 (FloatOps.cmpfTotal .gt) x sliceFits_S1000x1000_S1000x64).1) main_arg5
  let main_indices_5 : IVec S1000x64 32 := (fun x => (Host.topK S1000x64 1 (FloatOps.cmpfTotal .gt) x sliceFits_S1000x1000_S1000x64).2) main_arg5
  let main_v21 : FVec F S1000x1 .f32 := (extractStridedSlice S1000x1 ![0, 63] · slices_S1000x64_S1000x1_0_63) main_values_4
  let main_cst_6 : FVec F S_ .f32 := constant S_ .f32 0xFF800000#32
  let main_v22 : FVec F S1000 .f32 := (fun x v => Host.reduce FloatOps.maximumf x v reducesTo_S1000x1000_S1000_d1 h_S_) main_arg5 main_cst_6
  let main_v23 : FVec F S1000x1 .f32 := broadcastInDim S1000x1 ![0] bcast_S1000_S1000x1_0 main_v22
  let main_cst_7 : FVec F S_ .f32 := constant S_ .f32 0x7F800000#32
  let main_v24 : FVec F S1000 .f32 := (fun x v => Host.reduce FloatOps.minimumf x v reducesTo_S1000x1000_S1000_d1 h_S_) main_arg5 main_cst_7
  let main_v25 : FVec F S1000x1 .f32 := broadcastInDim S1000x1 ![0] bcast_S1000_S1000x1_0 main_v24
  let main_v26 : FVec F S1000x1 .f32 := subf main_v23 main_v25
  let main_cst_8 : FVec F S_ .f32 := constant S_ .f32 0x40000000#32
  let main_v27 : FVec F S1000x1 .f32 := broadcastInDim S1000x1 ![] bcast_S_S1000x1 main_cst_8
  let main_v28 : FVec F S1000x1 .f32 := addf main_v26 main_v27
  let main_cst_9 : FVec F S_ .f32 := constant S_ .f32 0x27800000#32
  let main_v29 : FVec F S1000x1 .f32 := broadcastInDim S1000x1 ![] bcast_S_S1000x1 main_cst_9
  let main_v30 : FVec F S1000x1 .f32 := mulf main_v28 main_v29
  let main_v31 : FVec F S1000x1000 .f32 := Host.absf main_arg5
  let main_cst_10 : FVec F S_ .f32 := constant S_ .f32 0x7F800000#32
  let main_v32 : FVec F S1000x1000 .f32 := broadcastInDim S1000x1000 ![] bcast_S_S1000x1000 main_cst_10
  let main_v33 : IVec S1000x1000 1 := cmpf .olt main_v31 main_v32
  fn_part2 (F := F) main_arg5 main_v20 main_v21 main_v30 main_v33

def fn {F : FTy → Type} [FloatOps F] (main_arg0 : FVec F S65536 .f32) (main_arg1 : FVec F S32x1024x1000 .f32) (main_arg2 : FVec F S32x1024x1000 .f32) (main_arg3 : FVec F S1000x64 .f32) (main_arg4 : FVec F S1000x1000 .f32) (main_arg5 : FVec F S1000x1000 .f32) : IVec S1000x1000 1 :=
  let main_values : FVec F S1000x64 .f32 := (fun x => (Host.topK S1000x64 1 (FloatOps.cmpfTotal .gt) x sliceFits_S1000x1000_S1000x64).1) main_arg4
  let main_indices : IVec S1000x64 32 := (fun x => (Host.topK S1000x64 1 (FloatOps.cmpfTotal .gt) x sliceFits_S1000x1000_S1000x64).2) main_arg4
  let main_v0 : FVec F S1000x1 .f32 := (extractStridedSlice S1000x1 ![0, 63] · slices_S1000x64_S1000x1_0_63) main_values
  let main_cst : FVec F S_ .f32 := constant S_ .f32 0xFF800000#32
  let main_v1 : FVec F S1000 .f32 := (fun x v => Host.reduce FloatOps.maximumf x v reducesTo_S1000x1000_S1000_d1 h_S_) main_arg4 main_cst
  let main_v2 : FVec F S1000x1 .f32 := broadcastInDim S1000x1 ![0] bcast_S1000_S1000x1_0 main_v1
  let main_cst_0 : FVec F S_ .f32 := constant S_ .f32 0x7F800000#32
  let main_v3 : FVec F S1000 .f32 := (fun x v => Host.reduce FloatOps.minimumf x v reducesTo_S1000x1000_S1000_d1 h_S_) main_arg4 main_cst_0
  let main_v4 : FVec F S1000x1 .f32 := broadcastInDim S1000x1 ![0] bcast_S1000_S1000x1_0 main_v3
  let main_v5 : FVec F S1000x1 .f32 := subf main_v2 main_v4
  let main_cst_1 : FVec F S_ .f32 := constant S_ .f32 0x40000000#32
  let main_v6 : FVec F S1000x1 .f32 := broadcastInDim S1000x1 ![] bcast_S_S1000x1 main_cst_1
  let main_v7 : FVec F S1000x1 .f32 := addf main_v5 main_v6
  let main_cst_2 : FVec F S_ .f32 := constant S_ .f32 0x27800000#32
  let main_v8 : FVec F S1000x1 .f32 := broadcastInDim S1000x1 ![] bcast_S_S1000x1 main_cst_2
  let main_v9 : FVec F S1000x1 .f32 := mulf main_v7 main_v8
  let main_v10 : FVec F S1000x1000 .f32 := Host.absf main_arg4
  let main_cst_3 : FVec F S_ .f32 := constant S_ .f32 0x7F800000#32
  let main_v11 : FVec F S1000x1000 .f32 := broadcastInDim S1000x1000 ![] bcast_S_S1000x1000 main_cst_3
  let main_v12 : IVec S1000x1000 1 := cmpf .olt main_v10 main_v11
  let main_v13 : FVec F S1000x1000 .f32 := broadcastInDim S1000x1000 ![0, 1] bcast_S1000x1_S1000x1000_0_1 main_v0
  let main_v14 : IVec S1000x1000 1 := cmpf .oge main_arg4 main_v13
  let main_v15 : FVec F S1000x1000 .f32 := broadcastInDim S1000x1000 ![0, 1] bcast_S1000x1_S1000x1000_0_1 main_v9
  let main_v16 : FVec F S1000x1000 .f32 := addf main_arg4 main_v15
  fn_part1 (F := F) main_arg5 main_v0 main_v12 main_v14 main_v16
-- ==== Kernel.lean ====
abbrev S65536 : Shape := ⟨1, ![65536]⟩
abbrev S32x1024x1000 : Shape := ⟨3, ![32, 1024, 1000]⟩
abbrev S1000x64 : Shape := ⟨2, ![1000, 64]⟩
abbrev S1000x1000 : Shape := ⟨2, ![1000, 1000]⟩
abbrev S1024x64 : Shape := ⟨2, ![1024, 64]⟩
abbrev S1024x1000 : Shape := ⟨2, ![1024, 1000]⟩
abbrev S1024 : Shape := ⟨1, ![1024]⟩
abbrev S1024x1 : Shape := ⟨2, ![1024, 1]⟩
abbrev S1000 : Shape := ⟨1, ![1000]⟩
abbrev S1x1000 : Shape := ⟨2, ![1, 1000]⟩
abbrev S32x1x1024 : Shape := ⟨3, ![32, 1, 1024]⟩
abbrev S1x256x1000 : Shape := ⟨3, ![1, 256, 1000]⟩
abbrev S256x1000 : Shape := ⟨2, ![256, 1000]⟩
abbrev S1x1x256 : Shape := ⟨3, ![1, 1, 256]⟩
abbrev S256 : Shape := ⟨1, ![256]⟩
abbrev S256x1 : Shape := ⟨2, ![256, 1]⟩
abbrev S32x1x128 : Shape := ⟨3, ![32, 1, 128]⟩
abbrev S1x1x1024 : Shape := ⟨3, ![1, 1, 1024]⟩
abbrev S1x1x128 : Shape := ⟨3, ![1, 1, 128]⟩
abbrev S1x1024x64 : Shape := ⟨3, ![1, 1024, 64]⟩
abbrev S1 : Shape := ⟨1, ![1]⟩
abbrev S1x1x1 : Shape := ⟨3, ![1, 1, 1]⟩
abbrev S128 : Shape := ⟨1, ![128]⟩
abbrev S2x1024x64 : Shape := ⟨3, ![2, 1024, 64]⟩
abbrev S32x1x1 : Shape := ⟨3, ![32, 1, 1]⟩
abbrev S32 : Shape := ⟨1, ![32]⟩
abbrev S1x32 : Shape := ⟨2, ![1, 32]⟩
abbrev S1x1 : Shape := ⟨2, ![1, 1]⟩
abbrev S32x1 : Shape := ⟨2, ![32, 1]⟩
abbrev S32x1024 : Shape := ⟨2, ![32, 1024]⟩
abbrev S2x65536 : Shape := ⟨2, ![2, 65536]⟩

abbrev nBuf : Space → Nat
  | .hbm => 14
  | .vmem => 31
  | .smem => 0
  | _ => 0

abbrev bufTy : (tb : Table) → Fin (tcTables nBuf tb) → BufTy
  | .hbm, ⟨0, _⟩ => ⟨S65536, .f32⟩
  | .hbm, ⟨1, _⟩ => ⟨S32x1024x1000, .f32⟩
  | .hbm, ⟨2, _⟩ => ⟨S32x1024x1000, .f32⟩
  | .hbm, ⟨3, _⟩ => ⟨S1000x64, .f32⟩
  | .hbm, ⟨4, _⟩ => ⟨S1000x1000, .f32⟩
  | .hbm, ⟨5, _⟩ => ⟨S1000x1000, .f32⟩
  | .hbm, ⟨6, _⟩ => ⟨S1024x64, .f32⟩
  | .hbm, ⟨7, _⟩ => ⟨S1024x1000, .f32⟩
  | .hbm, ⟨8, _⟩ => ⟨S1024x1000, .f32⟩
  | .hbm, ⟨9, _⟩ => ⟨S32x1x1024, .i32⟩
  | .hbm, ⟨10, _⟩ => ⟨S32x1x1024, .i32⟩
  | .hbm, ⟨11, _⟩ => ⟨S32x1x128, .f32⟩
  | .hbm, ⟨12, _⟩ => ⟨S2x1024x64, .f32⟩
  | .hbm, ⟨13, _⟩ => ⟨S2x65536, .f32⟩
  | .local _ .vmem, ⟨0, _⟩ => ⟨S1024x64, .f32⟩
  | .local _ .vmem, ⟨1, _⟩ => ⟨S1000x64, .f32⟩
  | .local _ .vmem, ⟨2, _⟩ => ⟨S1000x1000, .f32⟩
  | .local _ .vmem, ⟨3, _⟩ => ⟨S1000x1000, .f32⟩
  | .local _ .vmem, ⟨4, _⟩ => ⟨S1024x1000, .f32⟩
  | .local _ .vmem, ⟨5, _⟩ => ⟨S1024x1000, .f32⟩
  | .local _ .vmem, ⟨6, _⟩ => ⟨S1x256x1000, .f32⟩
  | .local _ .vmem, ⟨7, _⟩ => ⟨S1x256x1000, .f32⟩
  | .local _ .vmem, ⟨8, _⟩ => ⟨S1x256x1000, .f32⟩
  | .local _ .vmem, ⟨9, _⟩ => ⟨S1x256x1000, .f32⟩
  | .local _ .vmem, ⟨10, _⟩ => ⟨S256x1000, .f32⟩
  | .local _ .vmem, ⟨11, _⟩ => ⟨S256x1000, .f32⟩
  | .local _ .vmem, ⟨12, _⟩ => ⟨S256x1000, .f32⟩
  | .local _ .vmem, ⟨13, _⟩ => ⟨S256x1000, .f32⟩
  | .local _ .vmem, ⟨14, _⟩ => ⟨S1x1x256, .i32⟩
  | .local _ .vmem, ⟨15, _⟩ => ⟨S1x1x256, .i32⟩
  | .local _ .vmem, ⟨16, _⟩ => ⟨S1x1x256, .i32⟩
  | .local _ .vmem, ⟨17, _⟩ => ⟨S1x1x256, .i32⟩
  | .local _ .vmem, ⟨18, _⟩ => ⟨S1x1x1024, .i32⟩
  | .local _ .vmem, ⟨19, _⟩ => ⟨S1x1x1024, .i32⟩
  | .local _ .vmem, ⟨20, _⟩ => ⟨S1x1x1024, .i32⟩
  | .local _ .vmem, ⟨21, _⟩ => ⟨S1x1x1024, .i32⟩
  | .local _ .vmem, ⟨22, _⟩ => ⟨S1024x64, .f32⟩
  | .local _ .vmem, ⟨23, _⟩ => ⟨S1000x64, .f32⟩
  | .local _ .vmem, ⟨24, _⟩ => ⟨S1x1x128, .f32⟩
  | .local _ .vmem, ⟨25, _⟩ => ⟨S1x1x128, .f32⟩
  | .local _ .vmem, ⟨26, _⟩ => ⟨S32x1x128, .f32⟩
  | .local _ .vmem, ⟨27, _⟩ => ⟨S32x1x1024, .i32⟩
  | .local _ .vmem, ⟨28, _⟩ => ⟨S32x1x1024, .i32⟩
  | .local _ .vmem, ⟨29, _⟩ => ⟨S1000x64, .f32⟩
  | .local _ .vmem, ⟨30, _⟩ => ⟨S2x1024x64, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c48_i32 : BitVec 32 := 48#32
  let v39 : BitVec 32 := Scalar.addi c0_i32 c48_i32
  let c1_i32 : BitVec 32 := 1#32
  ⟨c0_i32, v39, c1_i32⟩
@[reducible] def k0_t2_loop : Scf.Loop 32 :=
  let c0_i32_25 : BitVec 32 := 0#32
  let c48_i32_26 : BitVec 32 := 48#32
  let v56 : BitVec 32 := Scalar.addi c0_i32_25 c48_i32_26
  let c1_i32_27 : BitVec 32 := 1#32
  ⟨c0_i32_25, v56, c1_i32_27⟩
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1000x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x256x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := .none

abbrev stage3_0 : Fin 1 → Memref sig .tc .vmem S32x1x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x1x1024 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S32x1x1024 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1000x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S2x1024x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
-- ==== ReferenceIdeal.lean ====
abbrev S65536 : Shape := ⟨1, ![65536]⟩
abbrev S32x1024x1000 : Shape := ⟨3, ![32, 1024, 1000]⟩
abbrev S1000x64 : Shape := ⟨2, ![1000, 64]⟩
abbrev S1000x1000 : Shape := ⟨2, ![1000, 1000]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S64x1000 : Shape := ⟨2, ![64, 1000]⟩
abbrev S1024x1000 : Shape := ⟨2, ![1024, 1000]⟩
abbrev S1000 : Shape := ⟨1, ![1000]⟩
abbrev S1x1000 : Shape := ⟨2, ![1, 1000]⟩
abbrev S1 : Shape := ⟨1, ![1]⟩
abbrev S1x1 : Shape := ⟨2, ![1, 1]⟩
abbrev S1x1024x1000 : Shape := ⟨3, ![1, 1024, 1000]⟩
abbrev S32x1024 : Shape := ⟨2, ![32, 1024]⟩
abbrev S32x1024x1 : Shape := ⟨3, ![32, 1024, 1]⟩
abbrev S1x1x1 : Shape := ⟨3, ![1, 1, 1]⟩
abbrev S32x1024x64 : Shape := ⟨3, ![32, 1024, 64]⟩
abbrev S32x65536 : Shape := ⟨2, ![32, 65536]⟩
abbrev S1x65536 : Shape := ⟨2, ![1, 65536]⟩
abbrev S32 : Shape := ⟨1, ![32]⟩
abbrev S1x1024 : Shape := ⟨2, ![1, 1024]⟩
abbrev S2x65536 : Shape := ⟨2, ![2, 65536]⟩

abbrev nBuf : Space → Nat
  | .hbm => 283
  | .vmem => 0
  | .smem => 0
  | _ => 0

abbrev hbmTy0_0 (i : Nat) : BufTy := match i % 128 with
  | 0 => ⟨S65536, .f32⟩
  | 1 => ⟨S32x1024x1000, .f32⟩
  | 2 => ⟨S32x1024x1000, .f32⟩
  | 3 => ⟨S1000x64, .f32⟩
  | 4 => ⟨S1000x1000, .f32⟩
  | 5 => ⟨S1000x1000, .f32⟩
  | 6 => ⟨S1024x64, .f32⟩
  | 7 => ⟨S1024x64, .f32⟩
  | 8 => ⟨S_, .f32⟩
  | 9 => ⟨S1024, .f32⟩
  | 10 => ⟨S1024x1, .f32⟩
  | 11 => ⟨S_, .f32⟩
  | 12 => ⟨S1024x64, .f32⟩
  | 13 => ⟨S1024x64, .f32⟩
  | 14 => ⟨S64x1000, .f32⟩
  | 15 => ⟨S1024x1000, .f32⟩
  | 16 => ⟨S1024x1000, .f32⟩
  | 17 => ⟨S1024x1000, .f32⟩
  | 18 => ⟨S1000x64, .f32⟩
  | 19 => ⟨S_, .f32⟩
  | 20 => ⟨S1000, .f32⟩
  | 21 => ⟨S1x1000, .f32⟩
  | 22 => ⟨S1024x1000, .f32⟩
  | 23 => ⟨S1024x1000, .f32⟩
  | 24 => ⟨S1024x1000, .i32⟩
  | 25 => ⟨S_, .f32⟩
  | 26 => ⟨S_, .i32⟩
  | 27 => ⟨S1024, .f32⟩
  | 28 => ⟨S1024, .i32⟩
  | 29 => ⟨S_, .i32⟩
  | 30 => ⟨S1024, .i32⟩
  | 31 => ⟨S1024, .i1⟩
  | 32 => ⟨S_, .i32⟩
  | 33 => ⟨S1024, .i32⟩
  | 34 => ⟨S1024, .i32⟩
  | 35 => ⟨S1024, .i32⟩
  | 36 => ⟨S1024x1, .i32⟩
  | 37 => ⟨S1, .i32⟩
  | 38 => ⟨S_, .i32⟩
  | 39 => ⟨S1024x1, .i32⟩
  | 40 => ⟨S1024x1, .i1⟩
  | 41 => ⟨S1x1, .i32⟩
  | 42 => ⟨S1024x1, .i32⟩
  | 43 => ⟨S1024x1, .i1⟩
  | 44 => ⟨S1024x1, .i1⟩
  | 45 => ⟨S_, .i1⟩
  | 46 => ⟨S1024, .i1⟩
  | 47 => ⟨S1024x1000, .f32⟩
  | 48 => ⟨S1024x1000, .i1⟩
  | 49 => ⟨S_, .f32⟩
  | 50 => ⟨S1024x1000, .f32⟩
  | 51 => ⟨S1024x1000, .f32⟩
  | 52 => ⟨S_, .f32⟩
  | 53 => ⟨S1024x1000, .f32⟩
  | 54 => ⟨S1024x1000, .f32⟩
  | 55 => ⟨S1024x64, .f32⟩
  | 56 => ⟨S1024x64, .i32⟩
  | 57 => ⟨S1024x1, .f32⟩
  | 58 => ⟨S1024x1000, .f32⟩
  | 59 => ⟨S1024x1000, .i1⟩
  | 60 => ⟨S_, .f32⟩
  | 61 => ⟨S_, .f32⟩
  | 62 => ⟨S1024x1000, .f32⟩
  | 63 => ⟨S1024x1000, .f32⟩
  | 64 => ⟨S_, .f32⟩
  | 65 => ⟨S32x1024x1000, .f32⟩
  | 66 => ⟨S32x1024x1000, .f32⟩
  | 67 => ⟨S32x1024x1000, .f32⟩
  | 68 => ⟨S32x1024x1000, .f32⟩
  | 69 => ⟨S_, .f32⟩
  | 70 => ⟨S32x1024x1000, .f32⟩
  | 71 => ⟨S32x1024x1000, .f32⟩
  | 72 => ⟨S32x1024x1000, .f32⟩
  | 73 => ⟨S32x1024x1000, .f32⟩
  | 74 => ⟨S1x1024x1000, .f32⟩
  | 75 => ⟨S32x1024x1000, .f32⟩
  | 76 => ⟨S32x1024x1000, .f32⟩
  | 77 => ⟨S32x1024x1000, .i32⟩
  | 78 => ⟨S_, .f32⟩
  | 79 => ⟨S_, .i32⟩
  | 80 => ⟨S32x1024, .f32⟩
  | 81 => ⟨S32x1024, .i32⟩
  | 82 => ⟨S_, .i32⟩
  | 83 => ⟨S1024, .i32⟩
  | 84 => ⟨S1024, .i1⟩
  | 85 => ⟨S_, .i32⟩
  | 86 => ⟨S1024, .i32⟩
  | 87 => ⟨S1024, .i32⟩
  | 88 => ⟨S1024, .i32⟩
  | 89 => ⟨S1024x1, .i32⟩
  | 90 => ⟨S1, .i32⟩
  | 91 => ⟨S_, .i32⟩
  | 92 => ⟨S1024x1, .i32⟩
  | 93 => ⟨S1024x1, .i1⟩
  | 94 => ⟨S1x1, .i32⟩
  | 95 => ⟨S1024x1, .i32⟩
  | 96 => ⟨S1024x1, .i1⟩
  | 97 => ⟨S1024x1, .i1⟩
  | 98 => ⟨S_, .i1⟩
  | 99 => ⟨S1024, .i1⟩
  | 100 => ⟨S1024x1000, .f32⟩
  | 101 => ⟨S1024x1000, .i1⟩
  | 102 => ⟨S_, .f32⟩
  | 103 => ⟨S1024x1000, .f32⟩
  | 104 => ⟨S1024x1000, .f32⟩
  | 105 => ⟨S_, .f32⟩
  | 106 => ⟨S1024x1000, .f32⟩
  | 107 => ⟨S1024x1000, .f32⟩
  | 108 => ⟨S1024x64, .f32⟩
  | 109 => ⟨S1024x64, .i32⟩
  | 110 => ⟨S1024x1, .f32⟩
  | 111 => ⟨S1024x1000, .f32⟩
  | 112 => ⟨S1024x1000, .i1⟩
  | 113 => ⟨S_, .f32⟩
  | 114 => ⟨S_, .f32⟩
  | 115 => ⟨S1024x1000, .f32⟩
  | 116 => ⟨S1024x1000, .f32⟩
  | 117 => ⟨S_, .f32⟩
  | 118 => ⟨S32x1024x1000, .f32⟩
  | 119 => ⟨S32x1024x1000, .f32⟩
  | 120 => ⟨S32x1024x1000, .f32⟩
  | 121 => ⟨S32x1024x1000, .f32⟩
  | 122 => ⟨S_, .f32⟩
  | 123 => ⟨S32x1024x1000, .f32⟩
  | 124 => ⟨S32x1024x1000, .f32⟩
  | 125 => ⟨S32x1024x1000, .f32⟩
  | 126 => ⟨S32x1024x1000, .f32⟩
  | 127 => ⟨S1x1024x1000, .f32⟩
  | _ => ⟨S65536, .f32⟩

abbrev hbmTy0_1 (i : Nat) : BufTy := match i % 128 with
  | 0 => ⟨S32x1024x1000, .f32⟩
  | 1 => ⟨S32x1024x1000, .f32⟩
  | 2 => ⟨S32x1024x1000, .i32⟩
  | 3 => ⟨S_, .f32⟩
  | 4 => ⟨S_, .i32⟩
  | 5 => ⟨S32x1024, .f32⟩
  | 6 => ⟨S32x1024, .i32⟩
  | 7 => ⟨S_, .i32⟩
  | 8 => ⟨S32x1024, .i32⟩
  | 9 => ⟨S32x1024, .i1⟩
  | 10 => ⟨S_, .i32⟩
  | 11 => ⟨S32x1024, .i32⟩
  | 12 => ⟨S32x1024, .i32⟩
  | 13 => ⟨S32x1024, .i32⟩
  | 14 => ⟨S32x1024x1, .i32⟩
  | 15 => ⟨S1, .i32⟩
  | 16 => ⟨S_, .i32⟩
  | 17 => ⟨S32x1024x1, .i32⟩
  | 18 => ⟨S32x1024x1, .i1⟩
  | 19 => ⟨S1x1x1, .i32⟩
  | 20 => ⟨S32x1024x1, .i32⟩
  | 21 => ⟨S32x1024x1, .i1⟩
  | 22 => ⟨S32x1024x1, .i1⟩
  | 23 => ⟨S_, .i1⟩
  | 24 => ⟨S32x1024, .i1⟩
  | 25 => ⟨S32x1024x64, .f32⟩
  | 26 => ⟨S32x1024x64, .i1⟩
  | 27 => ⟨S_, .f32⟩
  | 28 => ⟨S32x1024x64, .f32⟩
  | 29 => ⟨S32x1024x64, .f32⟩
  | 30 => ⟨S32x65536, .f32⟩
  | 31 => ⟨S_, .i32⟩
  | 32 => ⟨S32x1024, .i32⟩
  | 33 => ⟨S32x1024, .i1⟩
  | 34 => ⟨S_, .i32⟩
  | 35 => ⟨S32x1024, .i32⟩
  | 36 => ⟨S32x1024, .i32⟩
  | 37 => ⟨S32x1024, .i32⟩
  | 38 => ⟨S32x1024x1, .i32⟩
  | 39 => ⟨S1, .i32⟩
  | 40 => ⟨S_, .i32⟩
  | 41 => ⟨S32x1024x1, .i32⟩
  | 42 => ⟨S32x1024x1, .i1⟩
  | 43 => ⟨S1x1x1, .i32⟩
  | 44 => ⟨S32x1024x1, .i32⟩
  | 45 => ⟨S32x1024x1, .i1⟩
  | 46 => ⟨S32x1024x1, .i1⟩
  | 47 => ⟨S_, .i1⟩
  | 48 => ⟨S32x1024, .i1⟩
  | 49 => ⟨S32x1024x64, .f32⟩
  | 50 => ⟨S32x1024x64, .i1⟩
  | 51 => ⟨S_, .f32⟩
  | 52 => ⟨S32x1024x64, .f32⟩
  | 53 => ⟨S32x1024x64, .f32⟩
  | 54 => ⟨S32x65536, .f32⟩
  | 55 => ⟨S_, .f32⟩
  | 56 => ⟨S32x65536, .f32⟩
  | 57 => ⟨S32x65536, .f32⟩
  | 58 => ⟨S_, .f32⟩
  | 59 => ⟨S32x65536, .f32⟩
  | 60 => ⟨S32x65536, .f32⟩
  | 61 => ⟨S32x65536, .f32⟩
  | 62 => ⟨S1x65536, .f32⟩
  | 63 => ⟨S32x65536, .f32⟩
  | 64 => ⟨S32x65536, .f32⟩
  | 65 => ⟨S32x65536, .f32⟩
  | 66 => ⟨S_, .f32⟩
  | 67 => ⟨S32, .f32⟩
  | 68 => ⟨S32, .f32⟩
  | 69 => ⟨S32, .i32⟩
  | 70 => ⟨S_, .f32⟩
  | 71 => ⟨S_, .i32⟩
  | 72 => ⟨S_, .f32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1x1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i32⟩
  | 95 => ⟨S1024, .i32⟩
  | 96 => ⟨S1024x1, .i32⟩
  | 97 => ⟨S1, .i32⟩
  | 98 => ⟨S_, .i32⟩
  | 99 => ⟨S1024x1, .i32⟩
  | 100 => ⟨S1024x1, .i1⟩
  | 101 => ⟨S1x1, .i32⟩
  | 102 => ⟨S1024x1, .i32⟩
  | 103 => ⟨S1024x1, .i1⟩
  | 104 => ⟨S1024x1, .i1⟩
  | 105 => ⟨S_, .i1⟩
  | 106 => ⟨S1024, .i1⟩
  | 107 => ⟨S1024x64, .f32⟩
  | 108 => ⟨S1024x64, .i1⟩
  | 109 => ⟨S_, .f32⟩
  | 110 => ⟨S1024x64, .f32⟩
  | 111 => ⟨S1024x64, .f32⟩
  | 112 => ⟨S65536, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x1024, .i32⟩
  | 127 => ⟨S1024, .i32⟩
  | _ => ⟨S65536, .f32⟩

abbrev hbmTy0_2 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S1, .i32⟩
  | 9 => ⟨S_, .i32⟩
  | 10 => ⟨S1024x1, .i32⟩
  | 11 => ⟨S1024x1, .i1⟩
  | 12 => ⟨S1x1, .i32⟩
  | 13 => ⟨S1024x1, .i32⟩
  | 14 => ⟨S1024x1, .i1⟩
  | 15 => ⟨S1024x1, .i1⟩
  | 16 => ⟨S_, .i1⟩
  | 17 => ⟨S1024, .i1⟩
  | 18 => ⟨S1024x64, .f32⟩
  | 19 => ⟨S1024x64, .i1⟩
  | 20 => ⟨S_, .f32⟩
  | 21 => ⟨S1024x64, .f32⟩
  | 22 => ⟨S1024x64, .f32⟩
  | 23 => ⟨S65536, .f32⟩
  | 24 => ⟨S1x65536, .f32⟩
  | 25 => ⟨S1x65536, .f32⟩
  | 26 => ⟨S2x65536, .f32⟩
  | _ => ⟨S65536, .f32⟩

abbrev hbmTy (i : Nat) : BufTy := match i / 128 with
  | 0 => hbmTy0_0 i
  | 1 => hbmTy0_1 i
  | 2 => hbmTy0_2 i
  | _ => ⟨S65536, .f32⟩

abbrev bufTy : (tb : Table) → Fin (tcTables nBuf tb) → BufTy
  | .hbm, ⟨i, _⟩ => hbmTy i
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v15 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v16 : Ref sig .tc := ⟨.hbm, 51, rfl⟩
abbrev main_cst_2 : Ref sig .tc := ⟨.hbm, 52, rfl⟩
abbrev main_v17 : Ref sig .tc := ⟨.hbm, 53, rfl⟩
abbrev main_v18 : Ref sig .tc := ⟨.hbm, 54, rfl⟩
abbrev main_values : Ref sig .tc := ⟨.hbm, 55, rfl⟩
abbrev main_indices : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_v22 : Ref sig .tc := ⟨.hbm, 63, rfl⟩
abbrev main_cst_4 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_5 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_call3_v0 : Ref sig .tc := ⟨.hbm, 77, rfl⟩
abbrev main_call3_cst : Ref sig .tc := ⟨.hbm, 78, rfl⟩
abbrev main_call3_c : Ref sig .tc := ⟨.hbm, 79, rfl⟩
abbrev main_call3_v1_0 : Ref sig .tc := ⟨.hbm, 80, rfl⟩
abbrev main_v34 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_v14 : Ref sig .tc := ⟨.hbm, 101, rfl⟩
abbrev main_call4_cst : Ref sig .tc := ⟨.hbm, 102, rfl⟩
abbrev main_call4_v15 : Ref sig .tc := ⟨.hbm, 103, rfl⟩
abbrev main_v35 : Ref sig .tc := ⟨.hbm, 104, rfl⟩
abbrev main_cst_6 : Ref sig .tc := ⟨.hbm, 105, rfl⟩
abbrev main_v36 : Ref sig .tc := ⟨.hbm, 106, rfl⟩
abbrev main_v37 : Ref sig .tc := ⟨.hbm, 107, rfl⟩
abbrev main_values_7 : Ref sig .tc := ⟨.hbm, 108, rfl⟩
abbrev main_indices_8 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_v41 : Ref sig .tc := ⟨.hbm, 116, rfl⟩
abbrev main_cst_10 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_cst_11 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_call6_v0 : Ref sig .tc := ⟨.hbm, 130, rfl⟩
abbrev main_call6_cst : Ref sig .tc := ⟨.hbm, 131, rfl⟩
abbrev main_call6_c : Ref sig .tc := ⟨.hbm, 132, rfl⟩
abbrev main_call6_v1_0 : Ref sig .tc := ⟨.hbm, 133, rfl⟩
abbrev main_v53 : Ref sig .tc := ⟨.hbm, 134, rfl⟩
abbrev main_call7_c : Ref sig .tc := ⟨.hbm, 135, rfl⟩
abbrev main_call7_v0 : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_c_1 : Ref sig .tc := ⟨.hbm, 143, rfl⟩
abbrev main_call7_c_2 : Ref sig .tc := ⟨.hbm, 144, rfl⟩
abbrev main_call7_v6 : Ref sig .tc := ⟨.hbm, 145, rfl⟩
abbrev main_call7_v7 : Ref sig .tc := ⟨.hbm, 146, rfl⟩
abbrev main_call7_v8 : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_c_3 : Ref sig .tc := ⟨.hbm, 151, rfl⟩
abbrev main_call7_v12 : Ref sig .tc := ⟨.hbm, 152, rfl⟩
abbrev main_call7_v13 : Ref sig .tc := ⟨.hbm, 153, rfl⟩
abbrev main_call7_v14 : Ref sig .tc := ⟨.hbm, 154, rfl⟩
abbrev main_call7_cst : Ref sig .tc := ⟨.hbm, 155, rfl⟩
abbrev main_call7_v15 : Ref sig .tc := ⟨.hbm, 156, rfl⟩
abbrev main_v54 : Ref sig .tc := ⟨.hbm, 157, rfl⟩
abbrev main_v55 : Ref sig .tc := ⟨.hbm, 158, rfl⟩
abbrev main_call8_c : Ref sig .tc := ⟨.hbm, 159, rfl⟩
abbrev main_call8_v0 : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_v5 : Ref sig .tc := ⟨.hbm, 166, rfl⟩
abbrev main_call8_c_1 : Ref sig .tc := ⟨.hbm, 167, rfl⟩
abbrev main_call8_c_2 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_call8_c_3 : Ref sig .tc := ⟨.hbm, 175, rfl⟩
abbrev main_call8_v12 : Ref sig .tc := ⟨.hbm, 176, rfl⟩
abbrev main_call8_v13 : Ref sig .tc := ⟨.hbm, 177, rfl⟩
abbrev main_call8_v14 : Ref sig .tc := ⟨.hbm, 178, rfl⟩
abbrev main_call8_cst : Ref sig .tc := ⟨.hbm, 179, rfl⟩
abbrev main_call8_v15 : Ref sig .tc := ⟨.hbm, 180, rfl⟩
abbrev main_v56 : Ref sig .tc := ⟨.hbm, 181, rfl⟩
abbrev main_v57 : Ref sig .tc := ⟨.hbm, 182, rfl⟩
abbrev main_cst_12 : Ref sig .tc := ⟨.hbm, 183, rfl⟩
abbrev main_v58 : Ref sig .tc := ⟨.hbm, 184, rfl⟩
abbrev main_v59 : Ref sig .tc := ⟨.hbm, 185, rfl⟩
abbrev main_cst_13 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_call9_v0 : Ref sig .tc := ⟨.hbm, 193, rfl⟩
abbrev main_call9_cst : Ref sig .tc := ⟨.hbm, 194, rfl⟩
abbrev main_call9_v1 : Ref sig .tc := ⟨.hbm, 195, rfl⟩
abbrev main_v66 : Ref sig .tc := ⟨.hbm, 196, rfl⟩
abbrev main_call10_v0 : Ref sig .tc := ⟨.hbm, 197, rfl⟩
abbrev main_call10_cst : Ref sig .tc := ⟨.hbm, 198, rfl⟩
abbrev main_call10_c : Ref sig .tc := ⟨.hbm, 199, rfl⟩
abbrev main_call10_v1_0 : Ref sig .tc := ⟨.hbm, 200, rfl⟩
abbrev main_v67 : Ref sig .tc := ⟨.hbm, 201, rfl⟩
abbrev main_c : Ref sig .tc := ⟨.hbm, 202, rfl⟩
abbrev main_v68 : Ref sig .tc := ⟨.hbm, 203, rfl⟩
abbrev main_c_14 : Ref sig .tc := ⟨.hbm, 204, rfl⟩
abbrev main_v69 : Ref sig .tc := ⟨.hbm, 205, rfl⟩
abbrev main_v70 : Ref sig .tc := ⟨.hbm, 206, rfl⟩
abbrev main_c_15 : Ref sig .tc := ⟨.hbm, 207, rfl⟩
abbrev main_c_16 : Ref sig .tc := ⟨.hbm, 208, rfl⟩
abbrev main_v71 : Ref sig .tc := ⟨.hbm, 209, rfl⟩
abbrev main_c_17 : Ref sig .tc := ⟨.hbm, 210, rfl⟩
abbrev main_c_18 : Ref sig .tc := ⟨.hbm, 211, rfl⟩
abbrev main_v72 : Ref sig .tc := ⟨.hbm, 212, rfl⟩
abbrev main_c_19 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_call11_c : Ref sig .tc := ⟨.hbm, 217, rfl⟩
abbrev main_call11_v0 : Ref sig .tc := ⟨.hbm, 218, rfl⟩
abbrev main_call11_v1 : Ref sig .tc := ⟨.hbm, 219, rfl⟩
abbrev main_call11_c_0 : Ref sig .tc := ⟨.hbm, 220, rfl⟩
abbrev main_call11_v2 : Ref sig .tc := ⟨.hbm, 221, rfl⟩
abbrev main_call11_v3 : Ref sig .tc := ⟨.hbm, 222, rfl⟩
abbrev main_call11_v4 : Ref sig .tc := ⟨.hbm, 223, rfl⟩
abbrev main_call11_v5 : Ref sig .tc := ⟨.hbm, 224, rfl⟩
abbrev main_call11_c_1 : Ref sig .tc := ⟨.hbm, 225, rfl⟩
abbrev main_call11_c_2 : Ref sig .tc := ⟨.hbm, 226, rfl⟩
abbrev main_call11_v6 : Ref sig .tc := ⟨.hbm, 227, rfl⟩
abbrev main_call11_v7 : Ref sig .tc := ⟨.hbm, 228, rfl⟩
abbrev main_call11_v8 : Ref sig .tc := ⟨.hbm, 229, rfl⟩
abbrev main_call11_v9 : Ref sig .tc := ⟨.hbm, 230, rfl⟩
abbrev main_call11_v10 : Ref sig .tc := ⟨.hbm, 231, rfl⟩
abbrev main_call11_v11 : Ref sig .tc := ⟨.hbm, 232, rfl⟩
abbrev main_call11_c_3 : Ref sig .tc := ⟨.hbm, 233, rfl⟩
abbrev main_call11_v12 : Ref sig .tc := ⟨.hbm, 234, rfl⟩
abbrev main_call11_v13 : Ref sig .tc := ⟨.hbm, 235, rfl⟩
abbrev main_call11_v14 : Ref sig .tc := ⟨.hbm, 236, rfl⟩
abbrev main_call11_cst : Ref sig .tc := ⟨.hbm, 237, rfl⟩
abbrev main_call11_v15 : Ref sig .tc := ⟨.hbm, 238, rfl⟩
abbrev main_v76 : Ref sig .tc := ⟨.hbm, 239, rfl⟩
abbrev main_v77 : Ref sig .tc := ⟨.hbm, 240, rfl⟩
abbrev main_c_20 : Ref sig .tc := ⟨.hbm, 241, rfl⟩
abbrev main_v78 : Ref sig .tc := ⟨.hbm, 242, rfl⟩
abbrev main_c_21 : Ref sig .tc := ⟨.hbm, 243, rfl⟩
abbrev main_v79 : Ref sig .tc := ⟨.hbm, 244, rfl⟩
abbrev main_v80 : Ref sig .tc := ⟨.hbm, 245, rfl⟩
abbrev main_c_22 : Ref sig .tc := ⟨.hbm, 246, rfl⟩
abbrev main_c_23 : Ref sig .tc := ⟨.hbm, 247, rfl⟩
abbrev main_v81 : Ref sig .tc := ⟨.hbm, 248, rfl⟩
abbrev main_c_24 : Ref sig .tc := ⟨.hbm, 249, rfl⟩
abbrev main_c_25 : Ref sig .tc := ⟨.hbm, 250, rfl⟩
abbrev main_v82 : Ref sig .tc := ⟨.hbm, 251, rfl⟩
abbrev main_c_26 : Ref sig .tc := ⟨.hbm, 252, rfl⟩
abbrev main_v83 : Ref sig .tc := ⟨.hbm, 253, rfl⟩
abbrev main_v84 : Ref sig .tc := ⟨.hbm, 254, rfl⟩
abbrev main_v85 : Ref sig .tc := ⟨.hbm, 255, rfl⟩
abbrev main_call12_c : Ref sig .tc := ⟨.hbm, 256, rfl⟩
abbrev main_call12_v0 : Ref sig .tc := ⟨.hbm, 257, rfl⟩
abbrev main_call12_v1 : Ref sig .tc := ⟨.hbm, 258, rfl⟩
abbrev main_call12_c_0 : Ref sig .tc := ⟨.hbm, 259, rfl⟩
abbrev main_call12_v2 : Ref sig .tc := ⟨.hbm, 260, rfl⟩
abbrev main_call12_v3 : Ref sig .tc := ⟨.hbm, 261, rfl⟩
abbrev main_call12_v4 : Ref sig .tc := ⟨.hbm, 262, rfl⟩
abbrev main_call12_v5 : Ref sig .tc := ⟨.hbm, 263, rfl⟩
abbrev main_call12_c_1 : Ref sig .tc := ⟨.hbm, 264, rfl⟩
abbrev main_call12_c_2 : Ref sig .tc := ⟨.hbm, 265, rfl⟩
abbrev main_call12_v6 : Ref sig .tc := ⟨.hbm, 266, rfl⟩
abbrev main_call12_v7 : Ref sig .tc := ⟨.hbm, 267, rfl⟩
abbrev main_call12_v8 : Ref sig .tc := ⟨.hbm, 268, rfl⟩
abbrev main_call12_v9 : Ref sig .tc := ⟨.hbm, 269, rfl⟩
abbrev main_call12_v10 : Ref sig .tc := ⟨.hbm, 270, rfl⟩
abbrev main_call12_v11 : Ref sig .tc := ⟨.hbm, 271, rfl⟩
abbrev main_call12_c_3 : Ref sig .tc := ⟨.hbm, 272, rfl⟩
abbrev main_call12_v12 : Ref sig .tc := ⟨.hbm, 273, rfl⟩
abbrev main_call12_v13 : Ref sig .tc := ⟨.hbm, 274, rfl⟩
abbrev main_call12_v14 : Ref sig .tc := ⟨.hbm, 275, rfl⟩
abbrev main_call12_cst : Ref sig .tc := ⟨.hbm, 276, rfl⟩
abbrev main_call12_v15 : Ref sig .tc := ⟨.hbm, 277, rfl⟩
abbrev main_v86 : Ref sig .tc := ⟨.hbm, 278, rfl⟩
abbrev main_v87 : Ref sig .tc := ⟨.hbm, 279, rfl⟩
abbrev main_v88 : Ref sig .tc := ⟨.hbm, 280, rfl⟩
abbrev main_v89 : Ref sig .tc := ⟨.hbm, 281, rfl⟩
abbrev main_v90 : Ref sig .tc := ⟨.hbm, 282, rfl⟩

abbrev nD : Nat := 1
abbrev τ : Topo := Topo.v7x

variable {F : FTy → Type} [FloatOps F]
-- ==== Proof.KernelRun.lean ====
/- The kernel's run with its result: every execution ends with the result array at the last boundary's contents, the
   arguments as launched and every counter at zero. -/
module

public import proofs.«01_k».proof.Proof.Gen.KernelIdeal.Frame

@[expose] public section

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel's run ends, on every core, with the result array at the contents that
    the fold through its segments gives it, the six arguments unchanged and every semaphore counter at zero. -/
theorem run_result : θ_run defs (onTc (τ := τ) (main (F := F))) ⟨m, fun _ => 0, ρ⟩ (fun r => (∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

end Cert.KernelIdeal.Value

end
-- ==== Proof.Region0.lean ====
/- The arrays the kernel's first region leaves: it has one grid point and whole-array windows, so each is one block's value. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Cert.KernelIdeal.Gen
open Idealize.ShloMosaic Idealize.ShloMosaic.TcCoe Idealize.ShloMosaic.Tactic
open Idealize.ShloMosaic.Pipeline

variable {F : FTy → Type} [FloatOps F]
variable (V : (c : Dev nD) → (b : Ref sig .tc) → Buf (Elt F) ((c : Thread nD τ).loc b))

theorem idx0_0 : ∀ t : Fin cfg0.N, win0_0.index t = ![0, 0] :=
  (by decide +kernel : ∀ t : Fin grid0.N, _)
theorem idx0_1 : ∀ t : Fin cfg0.N, win0_1.index t = ![0, 0] :=
  (by decide +kernel : ∀ t : Fin grid0.N, _)
theorem idx0_2 : ∀ t : Fin cfg0.N, win0_2.index t = ![0, 0] :=
  (by decide +kernel : ∀ t : Fin grid0.N, _)
theorem idx0_3 : ∀ t : Fin cfg0.N, win0_3.index t = ![0, 0] :=
  (by decide +kernel : ∀ t : Fin grid0.N, _)
theorem idx0_4 : ∀ t : Fin cfg0.N, win0_4.index t = ![0, 0] :=
  (by decide +kernel : ∀ t : Fin grid0.N, _)
theorem idx0_5 : ∀ t : Fin cfg0.N, win0_5.index t = ![0, 0] :=
  (by decide +kernel : ∀ t : Fin grid0.N, _)

theorem blk0_0 (c : Dev nD) (t : Fin cfg0.N) : iblk0 V c 0 t = V c main_v0 := by
  funext y
  blk_simp [iblk0]
  congr 1
  blk_ext [idx0_0 t]

theorem blk0_1 (c : Dev nD) (t : Fin cfg0.N) : iblk0 V c 1 t = V c main_arg3 := by
  funext y
  blk_simp [iblk0]
  congr 1
  blk_ext [idx0_1 t]

theorem blk0_2 (c : Dev nD) (t : Fin cfg0.N) : iblk0 V c 2 t = V c main_arg4 := by
  funext y
  blk_simp [iblk0]
  congr 1
  blk_ext [idx0_2 t]

theorem blk0_3 (c : Dev nD) (t : Fin cfg0.N) : iblk0 V c 3 t = V c main_arg5 := by
  funext y
  blk_simp [iblk0]
  congr 1
  blk_ext [idx0_3 t]

/-- The first source's filtered logits, from the frames, the codebook and the prior. -/
def filt0 (x : Vec F S1024x64 .f32) (cb : Vec F S1000x64 .f32) (p : Vec F S1000x1000 .f32) : FVec F S1024x1000 .f32 :=
  k0_pay5 (k0_pay15 x cb p) (Scf.fold (n := k0_t1_loop.trips) (fun _ q => (k0_pay3 (k0_pay15 x cb p) q.1 q.2,
    k0_pay4 (k0_pay15 x cb p) q.1 q.2)) (k0_pay16 x cb p, k0_pay17 x cb p)).1

/-- The second source's. -/
def filt1 (x : Vec F S1024x64 .f32) (cb : Vec F S1000x64 .f32) (p : Vec F S1000x1000 .f32) : FVec F S1024x1000 .f32 :=
  k0_pay13 (k0_pay14 x cb) p (Scf.fold (n := k0_t2_loop.trips) (fun _ q => (k0_pay11 (k0_pay14 x cb) p q.1 q.2,
    k0_pay12 (k0_pay14 x cb) p q.1 q.2)) (k0_pay7 (k0_pay14 x cb) p, k0_pay8 (k0_pay14 x cb) p)).1

theorem final0_4 (c : Dev nD) : (dat0 V c).arrAt 4 cfg0.N = filt0 (V c main_v0) (V c main_arg3) (V c main_arg4) := by
  refine (dat0 V c).arrAt_eq_of_covers 4 _ (by decide +kernel) fun t hf y => ?_
  blk_simp
  rw [after0_4]
  unfold outsAt0
  dsimp only
  frame_out
  simp only [blk0_0, blk0_1, blk0_2, Idealize.ShloMosaic.read_unread_whole]
  refine congrArg (filt0 (V c main_v0) (V c main_arg3) (V c main_arg4)) ?_
  blk_ext [idx0_4 t]

theorem final0_5 (c : Dev nD) : (dat0 V c).arrAt 5 cfg0.N = filt1 (V c main_v0) (V c main_arg3) (V c main_arg5) := by
  refine (dat0 V c).arrAt_eq_of_covers 5 _ (by decide +kernel) fun t hf y => ?_
  blk_simp
  rw [after0_5]
  unfold outsAt0
  dsimp only
  frame_out
  simp only [blk0_0, blk0_1, blk0_3, Idealize.ShloMosaic.read_unread_whole]
  refine congrArg (filt1 (V c main_v0) (V c main_arg3) (V c main_arg5)) ?_
  blk_ext [idx0_5 t]

end Cert.KernelIdeal.Value
-- ==== Proof.Arg.lean ====
/- The first index of a least value: what it is, and the two ways the programs find it — a minimum over the indices whose value
   equals the least one, and a left fold of a pair-valued step. -/
module

public import Idealize.ShloMosaic.PureOps.Reduce
public import Mathlib.Order.WellFounded
public import Mathlib.Data.Finset.Fold
public import Mathlib.Data.Finset.Max
public import Mathlib.Data.Finset.Lattice.Fold

@[expose] public section

namespace Cert.Arg

open Idealize.ShloMosaic

variable {α : Type} [LinearOrder α] {n : Nat}

/-- Index `i` is the first at which `f` is least. -/
def IsFirst (f : Fin n → α) (i : Fin n) : Prop := (∀ j, f i ≤ f j) ∧ ∀ j, j < i → f i < f j

theorem IsFirst.eq {f : Fin n → α} {i j : Fin n} (hi : IsFirst f i) (hj : IsFirst f j) : i = j := by
  rcases lt_trichotomy i j with h | h | h
  · exact absurd (hj.2 i h) (not_lt.2 (hi.1 j))
  · exact h
  · exact absurd (hi.2 j h) (not_lt.2 (hj.1 i))

theorem exists_isFirst [NeZero n] (f : Fin n → α) : ∃ i, IsFirst f i := by
  obtain ⟨m, -, hm'⟩ := Finset.exists_min_image Finset.univ f ⟨⟨0, Nat.pos_of_ne_zero (NeZero.ne n)⟩, Finset.mem_univ _⟩
  have hm : ∀ j, f m ≤ f j := fun j => hm' j (Finset.mem_univ j)
  obtain ⟨i, hi, hmin⟩ := (wellFounded_lt (α := Fin n)).has_min {i | ∀ j, f i ≤ f j} ⟨m, hm⟩
  refine ⟨i, hi, fun j hj => ?_⟩
  by_contra hcon
  exact hmin j (fun k => (not_lt.1 hcon).trans (hi k)) hj

/-- The first index at which `f` is least. -/
noncomputable def first [NeZero n] (f : Fin n → α) : Fin n := (exists_isFirst f).choose

theorem first_isFirst [NeZero n] (f : Fin n → α) : IsFirst f (first f) := (exists_isFirst f).choose_spec

/-- Two functions that order the indices alike have the same first least index. -/
theorem first_eq_of_le_iff [NeZero n] {β : Type} [LinearOrder β] (f : Fin n → α) (g : Fin n → β)
    (h : ∀ i j, f i ≤ f j ↔ g i ≤ g j) : first f = first g := by
  refine IsFirst.eq (f := f) (first_isFirst f) ⟨fun j => (h _ _).2 ((first_isFirst g).1 j), fun j hj => ?_⟩
  have := (first_isFirst g).2 j hj
  rw [← not_le] at this ⊢
  exact fun hc => this ((h _ _).1 hc)

/-- A word that holds a number below `2 ^ 31` reads as that number. -/
theorem toInt_ofNat {k : Nat} (hk : k < 2 ^ 31) : (BitVec.ofNat 32 k).toInt = (k : Int) := by
  rw [BitVec.toInt_eq_toNat_of_lt (by simp only [BitVec.toNat_ofNat]; omega)]
  simp only [BitVec.toNat_ofNat]
  omega

theorem toInt_minsi (a b : BitVec 32) : (IntOp.minsi a b).toInt = min a.toInt b.toInt := by
  simp only [IntOp.minsi, BitVec.slt, decide_eq_true_eq]
  split_ifs <;> omega

/-- The least index among those whose value equals the least value is the first index of the least value. -/
theorem fold_minsi_first [NeZero n] (hn : n < 2 ^ 31) (f : Fin n → α) (x : Fin n → BitVec 32)
    (hx : ∀ k, x k = if f k = f (first f) then BitVec.ofNat 32 k.val else BitVec.ofNat 32 n) :
    Finset.univ.fold IntOp.minsi 2147483647#32 x = BitVec.ofNat 32 (first f).val := by
  apply BitVec.eq_of_toInt_eq
  rw [← Finset.fold_hom (op := IntOp.minsi) (op' := min) (m := BitVec.toInt) toInt_minsi]
  have hb : ∀ k : Fin n, k.val < 2 ^ 31 := fun k => by have := k.isLt; omega
  rw [toInt_ofNat (hb _)]
  apply le_antisymm
  · rw [Finset.fold_min_le]
    refine Or.inr ⟨first f, Finset.mem_univ _, ?_⟩
    rw [hx, if_pos rfl, toInt_ofNat (hb _)]
  · rw [Finset.le_fold_min]
    refine ⟨?_, fun k _ => ?_⟩
    · have := hb (first f)
      have e : (2147483647#32 : BitVec 32).toInt = 2147483647 := by decide
      omega
    · rw [hx]
      split_ifs with h
      · rw [toInt_ofNat (hb _)]
        have : ¬ k < first f := fun hk => absurd h (ne_of_gt ((first_isFirst f).2 k hk))
        have := not_lt.1 this
        exact_mod_cast this
      · rw [toInt_ofNat hn]
        exact_mod_cast (first f).isLt.le

/-- The minimum over all indices is the value at the first least index. -/
theorem fold_min_first [NeZero n] [OrderTop α] (f : Fin n → α) : Finset.univ.fold min ⊤ f = f (first f) := by
  apply le_antisymm
  · rw [Finset.fold_min_le]
    exact Or.inr ⟨first f, Finset.mem_univ _, le_rfl⟩
  · rw [Finset.le_fold_min]
    exact ⟨le_top, fun k _ => (first_isFirst f).1 k⟩

/-- The order on pairs: by value, then by the index word. -/
def Before (a b : α × BitVec 32) : Prop := a.1 < b.1 ∨ (a.1 = b.1 ∧ a.2.toInt ≤ b.2.toInt)

theorem Before.refl (a : α × BitVec 32) : Before a a := Or.inr ⟨rfl, le_rfl⟩

theorem Before.trans {a b c : α × BitVec 32} (h : Before a b) (h' : Before b c) : Before a c := by
  unfold Before at *
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- A step that keeps the earlier of its two pairs. -/
def Keeps (step : α × BitVec 32 → α × BitVec 32 → α × BitVec 32) : Prop :=
  ∀ a b, (step a b = a ∨ step a b = b) ∧ Before (step a b) a ∧ Before (step a b) b

theorem foldl_keeps {step : α × BitVec 32 → α × BitVec 32 → α × BitVec 32} (hs : Keeps step) (l : List (α × BitVec 32))
    (a : α × BitVec 32) :
    (l.foldl step a = a ∨ l.foldl step a ∈ l) ∧ Before (l.foldl step a) a ∧ ∀ p ∈ l, Before (l.foldl step a) p := by
  induction l generalizing a with
  | nil => exact ⟨Or.inl rfl, Before.refl a, fun p hp => absurd hp List.not_mem_nil⟩
  | cons b l ih =>
    obtain ⟨h1, h2, h3⟩ := ih (step a b)
    obtain ⟨g1, g2, g3⟩ := hs a b
    rw [List.foldl_cons]
    refine ⟨?_, h2.trans g2, fun p hp => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.1 hp with rfl | hp
      · exact h2.trans g3
      · exact h3 p hp

/-- Folding such a step over the values paired with their indices, from the greatest value paired with zero, ends at the first
    index of the least value. -/
theorem foldl_first [NeZero n] [OrderTop α] (hn : n < 2 ^ 31) {step : α × BitVec 32 → α × BitVec 32 → α × BitVec 32}
    (hs : Keeps step) (f : Fin n → α) (l : List (α × BitVec 32))
    (hl : ∀ p, p ∈ l ↔ ∃ k : Fin n, p = (f k, BitVec.ofNat 32 k.val)) :
    (l.foldl step (⊤, 0#32)).2 = BitVec.ofNat 32 (first f).val := by
  obtain ⟨h1, -, h3⟩ := foldl_keeps hs l (⊤, 0#32)
  have hb : ∀ k : Fin n, k.val < 2 ^ 31 := fun k => by have := k.isLt; omega
  have h3 := h3 _ ((hl _).2 ⟨first f, rfl⟩)
  obtain ⟨hle, hlt⟩ := first_isFirst f
  rcases h1 with h1 | h1
  · rw [h1] at h3 ⊢
    rcases h3 with h3 | ⟨h3, -⟩
    · exact absurd h3 not_top_lt
    · have : (first f).val = 0 := by
        by_contra hne
        have h0 : (⟨0, Nat.pos_of_ne_zero (NeZero.ne n)⟩ : Fin n) < first f := Fin.lt_def.2 (Nat.pos_of_ne_zero hne)
        have := hlt _ h0
        rw [← (show (⊤ : α) = f (first f) from h3)] at this
        exact absurd this not_top_lt
      rw [this]
  · obtain ⟨k, hk⟩ := (hl _).1 h1
    rw [hk] at h3 ⊢
    have : k = first f := by
      rcases h3 with h3 | ⟨h3, h4⟩
      · exact absurd h3 (not_lt.2 (hle k))
      · rw [toInt_ofNat (hb _), toInt_ofNat (hb _)] at h4
        have h4 : k ≤ first f := by exact_mod_cast h4
        rcases lt_or_eq_of_le h4 with h5 | h5
        · exact absurd (show f k = f (first f) from h3) (ne_of_gt (hlt k h5))
        · exact h5
    rw [this]

end Cert.Arg
-- ==== Proof.Shapes.lean ====
/- Shape casts, broadcasts and single-axis reductions read in coordinates, for shapes of any size. -/
module

public import Idealize.ShloMosaic.PureOps.Reduce
public import Idealize.ShloMosaic.Lib.Pipeline.Value
public import Idealize.ShloMosaic.Lib.ValueIdx
public import Idealize.ShloMosaic.Lib.ValueLayoutCasts

@[expose] public section

namespace Cert.Shapes

open Idealize.ShloMosaic Idealize.ShloMosaic.ValueIdx

variable {α : Type} {a b c n : Nat}

/-! ## Shape casts -/

theorem cast_a_a1 (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) := shapeCast_a_a1_apply x h i u

theorem cast_a_1a (x : (⟨1, ![a]⟩ : Shape).Idx → α) (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_two, Shape.rowMajor_val_one]
    show i.val = u.val * a + i.val
    rw [hu]; omega)

theorem cast_1a_a (x : (⟨2, ![1, a]⟩ : Shape).Idx → α) (h : (⟨2, ![1, a]⟩ : Shape).ShapeCasts ⟨1, ![a]⟩) (i : Fin a) :
    shapeCast ⟨1, ![a]⟩ x h (ix1 i) = x (ix2 (0 : Fin 1) i) :=
  shapeCast_apply x h _ _ (by
    rw [Shape.rowMajor_val_two, Shape.rowMajor_val_one]
    show 0 * a + i.val = i.val
    omega)

theorem cast_ab_1ab (x : (⟨2, ![a, b]⟩ : Shape).Idx → α) (h : (⟨2, ![a, b]⟩ : Shape).ShapeCasts ⟨3, ![1, a, b]⟩) (u : Fin 1)
    (i : Fin a) (j : Fin b) : shapeCast ⟨3, ![1, a, b]⟩ x h (ix3 u i j) = x (ix2 i j) :=
  shapeCast_apply x h _ _ (by
    have hu : u.val = 0 := by omega
    rw [Shape.rowMajor_val_two, Shape.rowMajor_val_three]
    show i.val * b + j.val = (u.val * a + i.val) * b + j.val
    rw [hu]; simp)

theorem cast_1ab_ab (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 (0 : Fin 1) i j) :=
  shapeCast_apply x h _ _ (by
    rw [Shape.rowMajor_val_two, Shape.rowMajor_val_three]
    show (0 * a + i.val) * b + j.val = i.val * b + j.val
    simp)

theorem cast_a_11a (x : (⟨1, ![a]⟩ : Shape).Idx → α) (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp)

theorem cast_11a_a (x : (⟨3, ![1, 1, a]⟩ : Shape).Idx → α) (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_one, Shape.rowMajor_val_three]
    show (0 * 1 + 0) * a + i.val = i.val
    simp)

theorem cast_a11_a (x : (⟨3, ![a, 1, 1]⟩ : Shape).Idx → α) (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_one, Shape.rowMajor_val_three]
    show (i.val * 1 + 0) * 1 + 0 = i.val
    omega)

theorem cast_a1b_ab (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_two, Shape.rowMajor_val_three]
    show (i.val * 1 + 0) * b + j.val = i.val * b + j.val
    simp)

theorem cast_flat_ab (x : (⟨1, ![n]⟩ : Shape).Idx → α) (h : (⟨1, ![n]⟩ : Shape).ShapeCasts ⟨2, ![a, b]⟩) (i : Fin a) (j : Fin b)
    (k : Fin n) (hk : k.val = i.val * b + j.val) : shapeCast ⟨2, ![a, b]⟩ x h (ix2 i j) = x (ix1 k) :=
  shapeCast_apply x h _ _ (by
    rw [Shape.rowMajor_val_two, Shape.rowMajor_val_one]
    exact hk)

theorem cast_ab_flat (x : (⟨2, ![a, b]⟩ : Shape).Idx → α) (h : (⟨2, ![a, b]⟩ : Shape).ShapeCasts ⟨1, ![n]⟩) (i : Fin a) (j : Fin b)
    (k : Fin n) (hk : k.val = i.val * b + j.val) : shapeCast ⟨1, ![n]⟩ x h (ix1 k) = x (ix2 i j) :=
  shapeCast_apply x h _ _ (by
    rw [Shape.rowMajor_val_two, Shape.rowMajor_val_one]
    exact hk.symm)

theorem cast_abc_flat (x : (⟨3, ![c, a, b]⟩ : Shape).Idx → α) (h : (⟨3, ![c, a, b]⟩ : Shape).ShapeCasts ⟨2, ![c, n]⟩) (hn : n = a * b)
    (s : Fin c) (i : Fin a) (j : Fin b) (k : Fin n) (hk : k.val = i.val * b + j.val) :
    shapeCast ⟨2, ![c, n]⟩ x h (ix2 s k) = x (ix3 s i j) :=
  shapeCast_apply x h _ _ (by
    rw [Shape.rowMajor_val_two, Shape.rowMajor_val_three]
    show (s.val * a + i.val) * b + j.val = s.val * n + k.val
    rw [hk, hn]; ring)

/-! ## Broadcasts -/

theorem bcast_a1_ab (x : (⟨2, ![a, 1]⟩ : Shape).Idx → α) (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ fun d => by
    match d with
    | ⟨0, _⟩ =>
      show i.val = if a = 1 then 0 else i.val
      split_ifs with e
      · have := i.isLt; omega
      · rfl
    | ⟨1, _⟩ => rfl

theorem bcast_1b_ab (x : (⟨2, ![1, b]⟩ : Shape).Idx → α) (h : (⟨2, ![1, b]⟩ : Shape).Broadcasts ⟨2, ![a, b]⟩) (i : Fin a) (j : Fin b) :
    broadcastTo ⟨2, ![a, b]⟩ x h (ix2 i j) = x (ix2 (0 : Fin 1) j) :=
  broadcastTo_apply x h _ _ fun d => by
    match d with
    | ⟨0, _⟩ => rfl
    | ⟨1, _⟩ =>
      show j.val = if b = 1 then 0 else j.val
      split_ifs with e
      · have := j.isLt; omega
      · rfl

/-! ## The index a single-axis reduction inserts -/

theorem lift_row (h : Shape.Reduces ⟨2, ![a, b]⟩ [1] ⟨1, ![a]⟩) (i : Fin a) (k : Fin b) : h.lift (ix1 i) k = ix2 i k := by
  funext d
  apply Fin.ext
  refine (h.lift_val _ _ _).trans ?_
  match d with
  | ⟨0, _⟩ => rfl
  | ⟨1, _⟩ => rfl

theorem lift_col (h : Shape.Reduces ⟨2, ![a, b]⟩ [0] ⟨1, ![b]⟩) (j : Fin b) (k : Fin a) : h.lift (ix1 j) k = ix2 k j := by
  funext d
  apply Fin.ext
  refine (h.lift_val _ _ _).trans ?_
  match d with
  | ⟨0, _⟩ => rfl
  | ⟨1, _⟩ => rfl

theorem lift_last (h : Shape.Reduces ⟨3, ![a, b, c]⟩ [2] ⟨2, ![a, b]⟩) (i : Fin a) (j : Fin b) (k : Fin c) :
    h.lift (ix2 i j) k = ix3 i j k := by
  funext d
  apply Fin.ext
  refine (h.lift_val _ _ _).trans ?_
  match d with
  | ⟨0, _⟩ => rfl
  | ⟨1, _⟩ => rfl
  | ⟨2, _⟩ => rfl

end Cert.Shapes
-- ==== Proof.Rows.lean ====
/- Reductions along the rows of a matrix of extended reals, and what a kernel makes of them: the index of a row's first least or
   first greatest entry, a one-hot matrix, and a one-hot matrix times another. -/
module

public import proofs.«01_k».proof.Proof.Arg
public import proofs.«01_k».proof.Proof.Shapes
public import Idealize.ShloMosaic.PureOps.Ideal.Laws
public import Idealize.ShloMosaic.Lib.MatmulPlain
public import Idealize.ShloMosaic.Lib.IndicatorCount

@[expose] public section

noncomputable section

namespace Cert.Rows

open Idealize.ShloMosaic Idealize.ShloMosaic.ValueIdx Cert.Arg Cert.Shapes

variable {a b : Nat}

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]

theorem select_decide {α : Type} (p : Prop) [Decidable p] (x y : α) :
    Scalar.select (BitVec.ofBool (decide p)) x y = if p then x else y := by
  by_cases h : p
  · simp [h]; rfl
  · simp [h]; rfl

/-- The order turned over: its first least index is the first greatest one. -/
abbrev flip (f : Fin b → EReal) : Fin b → ERealᵒᵈ := fun k => OrderDual.toDual (f k)

theorem row_sum (x : FVec Ideal ⟨2, ![a, b]⟩ .f32) (h : Shape.Reduces ⟨2, ![a, b]⟩ [1] ⟨1, ![a]⟩) (hφ) (hacc) (i : Fin a) :
    multiReduction .add [1] ⟨1, ![a]⟩ x 0x00000000#32 h hφ hacc (ix1 i) = ∑ k : Fin b, x (ix2 i k) := by
  rw [Ideal.multiReduction_add_single]
  exact Finset.sum_congr rfl fun k _ => congrArg x (lift_row h i k)

theorem row_min [NeZero b] (x : FVec Ideal ⟨2, ![a, b]⟩ .f32) (h : Shape.Reduces ⟨2, ![a, b]⟩ [1] ⟨1, ![a]⟩) (hφ) (hacc) (i : Fin a) :
    multiReduction .minimumf [1] ⟨1, ![a]⟩ x 0x7F800000#32 h hφ hacc (ix1 i) = x (ix2 i (first fun k => x (ix2 i k))) := by
  rw [multiReduction_minimumf_eq_fold, h.fold_filter_drop_single]
  refine Eq.trans ?_ (fold_min_first fun k => x (ix2 i k))
  rw [Ideal.ofBits_def, top_f32]
  exact congrArg (Finset.fold min ⊤ · Finset.univ) (funext fun k => congrArg x (lift_row h i k))

theorem row_max [NeZero b] (x : FVec Ideal ⟨2, ![a, b]⟩ .f32) (h : Shape.Reduces ⟨2, ![a, b]⟩ [1] ⟨1, ![a]⟩) (hφ) (hacc) (i : Fin a) :
    multiReduction .maximumf [1] ⟨1, ![a]⟩ x 0xFF800000#32 h hφ hacc (ix1 i) = x (ix2 i (first (flip fun k => x (ix2 i k)))) := by
  rw [Ideal.multiReduction_maximumf_single]
  refine Eq.trans ?_ (fold_min_first (flip fun k => x (ix2 i k)))
  rw [Ideal.ofBits_def, bot_f32]
  exact congrArg (Finset.fold max ⊥ · Finset.univ) (funext fun k => congrArg x (lift_row h i k))

theorem row_index [NeZero b] {α : Type} [LinearOrder α] (hb : b < 2 ^ 31) (f : Fin b → α) (x : IVec ⟨2, ![a, b]⟩ 32)
    (h : Shape.Reduces ⟨2, ![a, b]⟩ [1] ⟨1, ![a]⟩) (hacc) (i : Fin a)
    (hx : ∀ k, x (ix2 i k) = if f k = f (first f) then BitVec.ofNat 32 k.val else BitVec.ofNat 32 b) :
    multiReductionI .minsi [1] ⟨1, ![a]⟩ x 2147483647#32 h hacc (ix1 i) = BitVec.ofNat 32 (first f).val := by
  rw [multiReductionI_eq_fold, h.fold_filter_drop_single]
  refine Eq.trans ?_ (fold_minsi_first hb f (fun k => x (ix2 i k)) hx)
  exact congrArg (Finset.fold IntOp.minsi 2147483647#32 · Finset.univ) (funext fun k => congrArg x (lift_row h i k))

theorem row_addi (x : IVec ⟨2, ![a, b]⟩ 32) (h : Shape.Reduces ⟨2, ![a, b]⟩ [1] ⟨1, ![a]⟩) (hacc) (i : Fin a) :
    multiReductionI .add [1] ⟨1, ![a]⟩ x 0#32 h hacc (ix1 i) = Finset.univ.fold IntOp.addi 0#32 fun k : Fin b => x (ix2 i k) := by
  rw [multiReductionI_eq_fold, h.fold_filter_drop_single]
  exact congrArg (Finset.fold IntOp.addi 0#32 · Finset.univ) (funext fun k => congrArg x (lift_row h i k))

theorem col_addi (x : IVec ⟨2, ![a, b]⟩ 32) (h : Shape.Reduces ⟨2, ![a, b]⟩ [0] ⟨1, ![b]⟩) (hacc) (j : Fin b) :
    multiReductionI .add [0] ⟨1, ![b]⟩ x 0#32 h hacc (ix1 j) = Finset.univ.fold IntOp.addi 0#32 fun k : Fin a => x (ix2 k j) := by
  rw [multiReductionI_eq_fold, h.fold_filter_drop_single]
  exact congrArg (Finset.fold IntOp.addi 0#32 · Finset.univ) (funext fun k => congrArg x (lift_col h j k))

/-- The kernel's arg-min of a row: the least of the indices whose entry equals the row's minimum. -/
theorem row_argmin [NeZero b] (hb : b < 2 ^ 31) (x : FVec Ideal ⟨2, ![a, b]⟩ .f32) (h : Shape.Reduces ⟨2, ![a, b]⟩ [1] ⟨1, ![a]⟩)
    (hφ) (hacc) (hc : (⟨1, ![a]⟩ : Shape).ShapeCasts ⟨2, ![a, 1]⟩) (hr : (⟨2, ![a, 1]⟩ : Shape).Broadcasts ⟨2, ![a, b]⟩)
    (κ : Kind) (hi : (⟨2, ![a, b]⟩ : Shape).Iotas κ 32 [1]) (hacc') (i : Fin a) :
    multiReductionI .minsi [1] ⟨1, ![a]⟩
      (select (cmpf .oeq x (broadcastTo ⟨2, ![a, b]⟩ (shapeCast ⟨2, ![a, 1]⟩
          (multiReduction .minimumf [1] ⟨1, ![a]⟩ x 0x7F800000#32 h hφ hacc) hc) hr))
        (iota κ ⟨2, ![a, b]⟩ 32 [1] hi) (broadcast ⟨2, ![a, b]⟩ (BitVec.ofNat 32 b)))
      2147483647#32 h hacc' (ix1 i) = BitVec.ofNat 32 (first fun k => x (ix2 i k)).val := by
  refine row_index hb _ _ h hacc' i fun k => ?_
  rw [select_apply, cmpf_apply, bcast_a1_ab, cast_a_a1, row_min, iota_single_apply, broadcast_apply, Ideal.cmpf_def]
  exact select_decide _ _ _

/-- The kernel's arg-max of a row. -/
theorem row_argmax [NeZero b] (hb : b < 2 ^ 31) (x : FVec Ideal ⟨2, ![a, b]⟩ .f32) (h : Shape.Reduces ⟨2, ![a, b]⟩ [1] ⟨1, ![a]⟩)
    (hφ) (hacc) (hc : (⟨1, ![a]⟩ : Shape).ShapeCasts ⟨2, ![a, 1]⟩) (hr : (⟨2, ![a, 1]⟩ : Shape).Broadcasts ⟨2, ![a, b]⟩)
    (κ : Kind) (hi : (⟨2, ![a, b]⟩ : Shape).Iotas κ 32 [1]) (hacc') (i : Fin a) :
    multiReductionI .minsi [1] ⟨1, ![a]⟩
      (select (cmpf .oeq x (broadcastTo ⟨2, ![a, b]⟩ (shapeCast ⟨2, ![a, 1]⟩
          (multiReduction .maximumf [1] ⟨1, ![a]⟩ x 0xFF800000#32 h hφ hacc) hc) hr))
        (iota κ ⟨2, ![a, b]⟩ 32 [1] hi) (broadcast ⟨2, ![a, b]⟩ (BitVec.ofNat 32 b)))
      2147483647#32 h hacc' (ix1 i) = BitVec.ofNat 32 (first (flip fun k => x (ix2 i k))).val := by
  refine row_index hb _ _ h hacc' i fun k => ?_
  rw [select_apply, cmpf_apply, bcast_a1_ab, cast_a_a1, row_max, iota_single_apply, broadcast_apply, Ideal.cmpf_def]
  exact select_decide _ _ _

theorem ofNat_eq_iff {k l : Nat} (hk : k < 2 ^ 31) (hl : l < 2 ^ 31) : BitVec.ofNat 32 k = BitVec.ofNat 32 l ↔ k = l := by
  constructor
  · intro h
    have := congrArg BitVec.toInt h
    rw [toInt_ofNat hk, toInt_ofNat hl] at this
    exact_mod_cast this
  · rintro rfl; rfl

/-- A comparison for equality, widened and read as a float, is one or zero. -/
theorem hot (x y : BitVec 32) :
    (FloatOps.sitofp .f32 ((IntOp.cmpi .eq x y).setWidth 32) : Ideal .f32) = if x = y then (1 : EReal) else 0 := by
  by_cases h : x = y
  · have e : IntOp.cmpi .eq x y = 1#1 := by simp [IntOp.cmpi, h]
    rw [e, if_pos h]
    show (((((1#1 : BitVec 1).setWidth 32).toInt : ℤ) : ℝ) : EReal) = 1
    simp
  · have h' : (x == y) = false := by simpa using h
    have e : IntOp.cmpi .eq x y = 0#1 := by simp [IntOp.cmpi, h']
    rw [e, if_neg h]
    show (((((0#1 : BitVec 1).setWidth 32).toInt : ℤ) : ℝ) : EReal) = 0
    simp

/-- The matrix with a one in each row at that row's index, as a kernel builds it from a column of indices. -/
theorem hot_row (hb : b < 2 ^ 31) (t : IVec ⟨2, ![a, 1]⟩ 32) (hr : (⟨2, ![a, 1]⟩ : Shape).Broadcasts ⟨2, ![a, b]⟩)
    (κ : Kind) (hi : (⟨2, ![a, b]⟩ : Shape).Iotas κ 32 [1]) (hw : 1 < 32) (i : Fin a) (j k : Fin b)
    (ht : t (ix2 i (0 : Fin 1)) = BitVec.ofNat 32 j.val) :
    (sitofp .f32 (extui 32 (cmpi .eq (broadcastTo ⟨2, ![a, b]⟩ t hr) (iota κ ⟨2, ![a, b]⟩ 32 [1] hi)) hw) : FVec Ideal ⟨2, ![a, b]⟩ .f32)
      (ix2 i k) = if k = j then (1 : EReal) else 0 := by
  rw [sitofp_apply, extui_apply]
  show (FloatOps.sitofp .f32 ((IntOp.cmpi .eq (broadcastTo ⟨2, ![a, b]⟩ t hr (ix2 i k)) (iota κ ⟨2, ![a, b]⟩ 32 [1] hi (ix2 i k))).setWidth 32) : Ideal .f32) = _
  rw [hot, bcast_a1_ab, iota_single_apply, ht]
  refine if_congr ?_ rfl rfl
  rw [show ((ix2 i k : (⟨2, ![a, b]⟩ : Shape).Idx) 1).val = k.val from rfl,
    ofNat_eq_iff (by have := j.isLt; omega) (by have := k.isLt; omega), Fin.ext_iff]
  exact eq_comm

/-- Such a matrix times another takes the rows the indices name. -/
theorem hot_matmul {M K N : Nat} (d : DotDims ⟨2, ![M, K]⟩ ⟨2, ![K, N]⟩ ⟨2, ![M, N]⟩) (hd : d = DotDims.plain M K N) (prec)
    (l : FVec Ideal ⟨2, ![M, K]⟩ .f32) (r : FVec Ideal ⟨2, ![K, N]⟩ .f32) (i : Fin M) (c : Fin K) (j : Fin N)
    (hl : ∀ k, l (ix2 i k) = if k = c then (1 : EReal) else 0) :
    matmul d prec l r (constant ⟨2, ![M, N]⟩ .f32 0x00000000#32) (ix2 i j) = r (ix2 c j) := by
  subst hd
  refine (Ideal.matmul_plain_apply prec l r _ i j).trans ?_
  rw [constant_apply, Ideal.ofBits_zero_f32]
  simp only [hl]
  simp

end Cert.Rows
-- ==== Proof.Spec.lean ====
/- The computation in coordinates, over the extended reals: distances of frames to codes, the nearest code, the kept logits, the
   scores and the drawn tokens, each candidate's error, and the candidate of least error. -/
module

public import proofs.«01_k».proof.Proof.Rows

@[expose] public section

noncomputable section

namespace Cert.Spec

open Idealize.ShloMosaic Idealize.ShloMosaic.ValueIdx Cert.Arg Cert.Rows

/-- A matrix read by its two coordinates. -/
abbrev at2 {a b : Nat} (x : FVec Ideal ⟨2, ![a, b]⟩ .f32) (i : Fin a) (k : Fin b) : EReal := x (ix2 i k)

/-- The 1024 frames of 64 samples. -/
abbrev Frames := Fin 1024 → Fin 64 → EReal
/-- The 1000 codes of 64 samples. -/
abbrev Codes := Fin 1000 → Fin 64 → EReal
/-- One number per code. -/
abbrev Row := Fin 1000 → EReal

/-- The squared distance of frame `i` to code `k`, expanded. -/
def dist (x : Frames) (cb : Codes) (i : Fin 1024) (k : Fin 1000) : EReal :=
  (∑ c, x i c * x i c) - Ideal.ofBits .f32 0x40000000#32 * (∑ c, x i c * cb k c) + ∑ c, cb k c * cb k c

/-- The code nearest to frame `i`. -/
def code (x : Frames) (cb : Codes) (i : Fin 1024) : Fin 1000 := first (dist x cb i)

/-- Entries under `θ` replaced by minus infinity. -/
def keep (θ : EReal) (l : Row) (k : Fin 1000) : EReal := if θ ≤ l k then l k else ⊥

/-- The number of entries at `m` or over. -/
def count (l : Row) (m : EReal) : Nat := (Finset.univ.filter fun k => m ≤ l k).card

/-- One halving of the bracket around the 64th greatest entry. -/
def halve (l : Row) (p : EReal × EReal) : EReal × EReal :=
  if 64 ≤ count l (Ideal.ofBits .f32 0x3F000000#32 * (p.1 + p.2)) then (Ideal.ofBits .f32 0x3F000000#32 * (p.1 + p.2), p.2)
  else (p.1, Ideal.ofBits .f32 0x3F000000#32 * (p.1 + p.2))

/-- The bracket the search starts from: the least entry less one, the greatest and one. -/
def bracket (l : Row) : EReal × EReal :=
  (l (first l) - Ideal.ofBits .f32 0x3F800000#32, l (first (flip l)) + Ideal.ofBits .f32 0x3F800000#32)

/-- The lower end of the bracket after 48 halvings. -/
def cut (l : Row) : EReal := ((halve l)^[48] (bracket l)).1

/-- A kept logit with its Gumbel noise. -/
def score (f u : EReal) : EReal :=
  f + -(Ideal.log (-(Ideal.log (u + Ideal.ofBits .f32 0x3089705F#32)) + Ideal.ofBits .f32 0x3089705F#32))

/-- The token drawn: the first index of the greatest score. -/
def draw (f u : Row) : Fin 1000 := first (flip fun k => score (f k) (u k))

/-- The summand of a candidate's error: the squared difference of the sources' mean from the mixture. -/
def gap (cb : Codes) (t0 t1 : Fin 1024 → Fin 1000) (x : Frames) (i : Fin 1024) (c : Fin 64) : EReal :=
  (Ideal.ofBits .f32 0x3F000000#32 * cb (t0 i) c + Ideal.ofBits .f32 0x3F000000#32 * cb (t1 i) c - x i c)
    * (Ideal.ofBits .f32 0x3F000000#32 * cb (t0 i) c + Ideal.ofBits .f32 0x3F000000#32 * cb (t1 i) c - x i c)

/-- A candidate's error. -/
def err (cb : Codes) (t0 t1 : Fin 1024 → Fin 1000) (x : Frames) : EReal := ∑ i, ∑ c, gap cb t0 t1 x i c

/-- A hypothesis's tokens for one source: in each frame the draw from the logits kept of the prior's row at the frame's code. -/
def token (kept : Row → Row) (x : Frames) (cb : Codes) (p : Fin 1000 → Row) (u : Fin 32 → Fin 1024 → Row) (h : Fin 32) (i : Fin 1024) : Fin 1000 :=
  draw (kept (p (code x cb i))) (u h i)

/-- The hypothesis of least error among those the two sources' tokens make. -/
def bestOf (x : Frames) (cb : Codes) (T0 T1 : Fin 32 → Fin 1024 → Fin 1000) : Fin 32 := first fun h => err cb (T0 h) (T1 h) x

/-- The separated sources: the codes at the best hypothesis's tokens. -/
def answer (kept : Row → Row) (x : Frames) (cb : Codes) (p0 p1 : Fin 1000 → Row) (u0 u1 : Fin 32 → Fin 1024 → Row)
    (q : Fin 2) (i : Fin 1024) (c : Fin 64) : EReal :=
  cb ((if q = 0 then token kept x cb p0 u0 else token kept x cb p1 u1)
    (bestOf x cb (token kept x cb p0 u0) (token kept x cb p1 u1)) i) c

/-- The mixture cut in frames. -/
def framesOf (a : FVec Ideal ⟨1, ![65536]⟩ .f32) (i : Fin 1024) (c : Fin 64) : EReal :=
  a (ix1 ⟨i.val * 64 + c.val, by omega⟩)

/-- An array of hypotheses, frames and codes read by its three coordinates. -/
abbrev at3 {a b c : Nat} (x : FVec Ideal ⟨3, ![a, b, c]⟩ .f32) (h : Fin a) (i : Fin b) (k : Fin c) : EReal := x (ix3 h i k)

end Cert.Spec
-- ==== Proof.K0.lean ====
/- What the kernel's first region computes, row by row: each frame's nearest code, the prior's row at that code, and that row
   with the entries under the found cut replaced by minus infinity. -/
module

public import proofs.«01_k».proof.Proof.Gen.KernelIdeal.Skeleton
public import proofs.«01_k».proof.Proof.Spec

@[expose] public section

set_option maxRecDepth 16384

noncomputable section

namespace Cert.KernelIdeal.Value

open Cert.KernelIdeal Cert.KernelIdeal.Gen
open Idealize.ShloMosaic Idealize.ShloMosaic.ValueIdx Cert.Arg Cert.Shapes Cert.Rows Cert.Spec

theorem pay14_apply (x : Vec Ideal S1024x64 .f32) (cb : Vec Ideal S1000x64 .f32) (i : Fin 1024) (k : Fin 1000) :
    k0_pay14 (F := Ideal) x cb (ix2 i k) = if k = code (at2 x) (at2 cb) i then (1 : EReal) else 0 := by
  unfold k0_pay14
  refine hot_row (by norm_num) _ _ _ _ _ i _ k ?_
  rw [cast_a_a1]
  refine (row_argmin (by norm_num) _ _ _ _ _ _ _ _ _ i).trans ?_
  refine congrArg (fun f : Fin 1000 → EReal => BitVec.ofNat 32 (first f).val) (funext fun k => ?_)
  rw [addf_apply, subf_apply, bcast_a1_ab, cast_a_a1, bcast_1b_ab, cast_a_1a, mulf_apply, shapeCast_self]
  refine congrArg₂ (· + ·) (congrArg₂ (· - ·) (row_sum _ _ _ _ i) (congrArg₂ (· * ·) rfl ?_)) (row_sum _ _ _ _ k)
  refine (Ideal.matmul_transposedRhs_apply (M := 1024) (K := 64) (N := 1000) none x cb _ i k).trans ?_
  rw [constant_apply, Ideal.ofBits_zero_f32, zero_add]

/-- The first source's logits: the prior's row at the frame's code. -/
theorem pay15_apply (x : Vec Ideal S1024x64 .f32) (cb : Vec Ideal S1000x64 .f32) (p : Vec Ideal S1000x1000 .f32) (i : Fin 1024) (k : Fin 1000) :
    k0_pay15 (F := Ideal) x cb p (ix2 i k) = p (ix2 (code (at2 x) (at2 cb) i) k) :=
  hot_matmul (M := 1024) (K := 1000) (N := 1000) _ rfl _ _ _ i _ k fun k' => pay14_apply x cb i k'

/-- The second source's logits likewise. -/
theorem pay6_apply (x : Vec Ideal S1024x64 .f32) (cb : Vec Ideal S1000x64 .f32) (p : Vec Ideal S1000x1000 .f32) (i : Fin 1024) (k : Fin 1000) :
    k0_pay6 (F := Ideal) (k0_pay14 x cb) p (ix2 i k) = p (ix2 (code (at2 x) (at2 cb) i) k) :=
  hot_matmul (M := 1024) (K := 1000) (N := 1000) _ rfl _ _ _ i _ k fun k' => pay14_apply x cb i k'

/-- The bracket's two ends in a row, from the columns that hold them. -/
abbrev ends (lo hi : FVec Ideal S1024x1 .f32) (i : Fin 1024) : EReal × EReal := (lo (ix2 i (0 : Fin 1)), hi (ix2 i (0 : Fin 1)))

theorem pay1_apply (lo hi : FVec Ideal S1024x1 .f32) (i : Fin 1024) :
    k0_pay1 (F := Ideal) lo hi (ix2 i (0 : Fin 1))
      = Ideal.ofBits .f32 0x3F000000#32 * ((ends lo hi i).1 + (ends lo hi i).2) := rfl

theorem pay2_apply (L : FVec Ideal S1024x1000 .f32) (lo hi : FVec Ideal S1024x1 .f32) (i : Fin 1024) :
    k0_pay2 (F := Ideal) L lo hi (ix2 i (0 : Fin 1))
      = BitVec.ofBool (decide (64 ≤ count (at2 L i) (k0_pay1 (F := Ideal) lo hi (ix2 i (0 : Fin 1))))) := by
  unfold k0_pay2
  refine (congrArg (fun w => IntOp.cmpi .sge w 64#32) ((cast_a_a1 _ _ i _).trans (row_addi _ _ _ i))).trans ?_
  have e : (fun k : Fin 1000 => extui 32 (cmpf .oge L (broadcastTo S1024x1000 (k0_pay1 (F := Ideal) lo hi) broadcasts_S1024x1_S1024x1000)) natLt_1_32 (ix2 i k))
        = fun k : Fin 1000 => (BitVec.ofBool (decide (k0_pay1 (F := Ideal) lo hi (ix2 i (0 : Fin 1)) ≤ at2 L i k))).setWidth 32 := funext fun k => by
    rw [extui_apply, cmpf_apply, bcast_a1_ab]
    rfl
  rw [e]
  refine (congrArg (fun w => IntOp.cmpi .sge w 64#32) (IndicatorCount.fold_addi_setWidth_eq_card (w := 32)
    (fun k : Fin 1000 => BitVec.ofBool (decide (k0_pay1 (F := Ideal) lo hi (ix2 i (0 : Fin 1)) ≤ at2 L i k))) Finset.univ)).trans ?_
  have ec : (Finset.univ.filter fun k : Fin 1000 =>
      BitVec.ofBool (decide (k0_pay1 (F := Ideal) lo hi (ix2 i (0 : Fin 1)) ≤ at2 L i k)) = 1#1).card
        = count (at2 L i) (k0_pay1 (F := Ideal) lo hi (ix2 i (0 : Fin 1))) := by
    unfold Spec.count
    congr 1
    ext k
    by_cases h : k0_pay1 (F := Ideal) lo hi (ix2 i (0 : Fin 1)) ≤ at2 L i k <;> simp [h]
  rw [ec]
  have hc : count (at2 L i) (k0_pay1 (F := Ideal) lo hi (ix2 i (0 : Fin 1))) ≤ 1000 := by
    refine (Finset.card_le_univ _).trans ?_
    simp
  generalize count (at2 L i) (k0_pay1 (F := Ideal) lo hi (ix2 i (0 : Fin 1))) = n at hc ⊢
  have h64 : (64#32 : BitVec 32).toInt = 64 := by decide
  simp only [IntOp.cmpi, BitVec.sle, h64, toInt_ofNat (show n < 2 ^ 31 by omega)]
  congr 1
  exact decide_eq_decide.2 (by omega)

/-- One trip of the kernel's loop halves every row's bracket. -/
theorem step_apply (L : FVec Ideal S1024x1000 .f32) (lo hi : FVec Ideal S1024x1 .f32) (i : Fin 1024) :
    ends (k0_pay3 (F := Ideal) L lo hi) (k0_pay4 (F := Ideal) L lo hi) i = halve (at2 L i) (ends lo hi i) := by
  unfold k0_pay3 k0_pay4 ends halve
  simp only [select_apply, pay2_apply, pay1_apply, select_decide]
  split_ifs with h <;> simp only [h, decide_true, decide_false] <;> rfl

theorem start_lo (L : FVec Ideal S1024x1000 .f32) (h) (hφ) (hacc) (hc) (i : Fin 1024) :
    subf (shapeCast S1024x1 (multiReduction .minimumf [1] S1024 L 0x7F800000#32 h hφ hacc) hc)
      (broadcast S1024x1 (Scalar.ofBits .f32 0x3F800000#32)) (ix2 i (0 : Fin 1)) = (bracket (at2 L i)).1 := by
  rw [subf_apply, cast_a_a1]
  exact congrArg₂ (· - ·) (row_min _ _ _ _ i) rfl

theorem start_hi (L : FVec Ideal S1024x1000 .f32) (h) (hφ) (hacc) (hc) (i : Fin 1024) :
    addf (shapeCast S1024x1 (multiReduction .maximumf [1] S1024 L 0xFF800000#32 h hφ hacc) hc)
      (broadcast S1024x1 (Scalar.ofBits .f32 0x3F800000#32)) (ix2 i (0 : Fin 1)) = (bracket (at2 L i)).2 := by
  rw [addf_apply, cast_a_a1]
  exact congrArg₂ (· + ·) (row_max _ _ _ _ i) rfl

/-- The loop's result in a row: the bracket halved as often as the loop has trips. -/
theorem fold_apply {n : Nat} (L : FVec Ideal S1024x1000 .f32) (p : FVec Ideal S1024x1 .f32 × FVec Ideal S1024x1 .f32) (i : Fin 1024) :
    ends (Scf.fold (n := n) (fun _ q => (k0_pay3 (F := Ideal) L q.1 q.2, k0_pay4 (F := Ideal) L q.1 q.2)) p).1
        (Scf.fold (n := n) (fun _ q => (k0_pay3 (F := Ideal) L q.1 q.2, k0_pay4 (F := Ideal) L q.1 q.2)) p).2 i
      = (halve (at2 L i))^[n] (ends p.1 p.2 i) := by
  rw [Scf.fold_eq, List.foldl_const, List.length_finRange]
  induction n with
  | zero => rfl
  | succ n ih => rw [Function.iterate_succ_apply', Function.iterate_succ_apply', ← ih, step_apply]

/-- The filtered logits of a row. -/
theorem pay5_apply (L : FVec Ideal S1024x1000 .f32) (lo : FVec Ideal S1024x1 .f32) (i : Fin 1024) (k : Fin 1000) :
    k0_pay5 (F := Ideal) L lo (ix2 i k) = keep (lo (ix2 i (0 : Fin 1))) (at2 L i) k := by
  unfold k0_pay5
  rw [select_apply, cmpf_apply, bcast_a1_ab, broadcast_apply]
  refine (select_decide _ _ _).trans ?_
  unfold keep
  rw [show (Scalar.ofBits .f32 0xFF800000#32 : Ideal .f32) = ⊥ from bot_f32]

/-- The first source's filtered logits. -/
theorem filt0_apply (x : Vec Ideal S1024x64 .f32) (cb : Vec Ideal S1000x64 .f32) (p : Vec Ideal S1000x1000 .f32) (i : Fin 1024) (k : Fin 1000) :
    k0_pay5 (F := Ideal) (k0_pay15 x cb p) (Scf.fold (n := k0_t1_loop.trips) (fun _ q => (k0_pay3 (F := Ideal) (k0_pay15 x cb p) q.1 q.2,
        k0_pay4 (F := Ideal) (k0_pay15 x cb p) q.1 q.2)) (k0_pay16 x cb p, k0_pay17 x cb p)).1 (ix2 i k)
      = keep (cut (at2 p (code (at2 x) (at2 cb) i))) (at2 p (code (at2 x) (at2 cb) i)) k := by
  rw [pay5_apply]
  have hL : at2 (k0_pay15 (F := Ideal) x cb p) i = at2 p (code (at2 x) (at2 cb) i) := funext fun k => pay15_apply x cb p i k
  have ht : k0_t1_loop.trips = 48 := by decide
  have h0 : ends (k0_pay16 (F := Ideal) x cb p) (k0_pay17 (F := Ideal) x cb p) i = bracket (at2 (k0_pay15 (F := Ideal) x cb p) i) :=
    Prod.ext (start_lo _ _ _ _ _ i) (start_hi _ _ _ _ _ i)
  have hf := congrArg Prod.fst (fold_apply (n := k0_t1_loop.trips) (k0_pay15 (F := Ideal) x cb p) (k0_pay16 x cb p, k0_pay17 x cb p) i)
  rw [h0, ht] at hf
  rw [hL] at hf ⊢
  rw [ht]
  exact congrArg (fun θ => keep θ _ k) hf

/-- The second source's filtered logits. -/
theorem filt1_apply (x : Vec Ideal S1024x64 .f32) (cb : Vec Ideal S1000x64 .f32) (p : Vec Ideal S1000x1000 .f32) (i : Fin 1024) (k : Fin 1000) :
    k0_pay13 (F := Ideal) (k0_pay14 x cb) p (Scf.fold (n := k0_t2_loop.trips) (fun _ q => (k0_pay11 (F := Ideal) (k0_pay14 x cb) p q.1 q.2,
        k0_pay12 (F := Ideal) (k0_pay14 x cb) p q.1 q.2)) (k0_pay7 (k0_pay14 x cb) p, k0_pay8 (k0_pay14 x cb) p)).1 (ix2 i k)
      = keep (cut (at2 p (code (at2 x) (at2 cb) i))) (at2 p (code (at2 x) (at2 cb) i)) k := by
  have hL : at2 (k0_pay6 (F := Ideal) (k0_pay14 x cb) p) i = at2 p (code (at2 x) (at2 cb) i) := funext fun k => pay6_apply x cb p i k
  have ht : k0_t2_loop.trips = 48 := by decide
  have h0 : ends (k0_pay7 (F := Ideal) (k0_pay14 x cb) p) (k0_pay8 (F := Ideal) (k0_pay14 x cb) p) i
      = bracket (at2 (k0_pay6 (F := Ideal) (k0_pay14 x cb) p) i) :=
    Prod.ext (start_lo _ _ _ _ _ i) (start_hi _ _ _ _ _ i)
  have hf := congrArg Prod.fst (fold_apply (n := k0_t2_loop.trips) (k0_pay6 (F := Ideal) (k0_pay14 x cb) p)
    (k0_pay7 (k0_pay14 x cb) p, k0_pay8 (k0_pay14 x cb) p) i)
  refine (pay5_apply (k0_pay6 (F := Ideal) (k0_pay14 x cb) p) _ i k).trans ?_
  rw [h0, ht] at hf
  rw [hL] at hf ⊢
  rw [ht]
  exact congrArg (fun θ => keep θ _ k) hf

end Cert.KernelIdeal.Value
-- ==== Proof.K123.lean ====
/- What the bodies of the kernel's second, third and fourth regions compute: drawn tokens, candidates' errors, and the codebook
   rows of the best candidate's tokens. -/
module

public import proofs.«01_k».proof.Proof.K0

@[expose] public section

set_option maxRecDepth 16384

noncomputable section

namespace Cert.KernelIdeal.Value

open Cert.KernelIdeal Cert.KernelIdeal.Gen
open Idealize.ShloMosaic Idealize.ShloMosaic.ValueIdx Cert.Arg Cert.Shapes Cert.Rows Cert.Spec

/-! ## Drawing a token -/

/-- The first source's tokens: in each row the first index of the greatest score. -/
theorem draw0_apply (u : Vec Ideal S1x256x1000 .f32) (f : Vec Ideal S256x1000 .f32) (r : Fin 256) :
    k1_pay2 (F := Ideal) u f (ix3 (0 : Fin 1) (0 : Fin 1) r)
      = BitVec.ofNat 32 (draw (fun k => f (ix2 r k)) (fun k => u (ix3 (0 : Fin 1) r k))).val := by
  unfold k1_pay2
  rw [cast_a_11a]
  refine (row_argmax (by norm_num) _ _ _ _ _ _ _ _ _ r).trans ?_
  unfold draw
  refine congrArg (fun g : Fin 1000 → EReal => BitVec.ofNat 32 (first (flip g)).val) (funext fun k => ?_)
  rw [addf_apply, shapeCast_self, subf_apply]
  unfold score
  rw [← zero_sub, ← zero_sub (Ideal.log (u (ix3 (0 : Fin 1) r k) + _))]
  have e : shapeCast S256x1000 u shapeCasts_S1x256x1000_S256x1000 (ix2 r k) = u (ix3 (0 : Fin 1) r k) := cast_1ab_ab _ _ r k
  rw [← e, ← Ideal.ofBits_zero_f32]
  rfl

/-- The second source's tokens. -/
theorem draw1_apply (u : Vec Ideal S1x256x1000 .f32) (f : Vec Ideal S256x1000 .f32) (r : Fin 256) :
    k1_pay1 (F := Ideal) (iota .tc S256x1000 32 [1] iota_S256x1000_d1_w32) (k1_pay3 u) f (ix3 (0 : Fin 1) (0 : Fin 1) r)
      = BitVec.ofNat 32 (draw (fun k => f (ix2 r k)) (fun k => u (ix3 (0 : Fin 1) r k))).val := by
  unfold k1_pay1
  rw [cast_a_11a]
  refine (row_argmax (by norm_num) _ _ _ _ _ _ _ _ _ r).trans ?_
  unfold draw
  refine congrArg (fun g : Fin 1000 → EReal => BitVec.ofNat 32 (first (flip g)).val) (funext fun k => ?_)
  rw [addf_apply, shapeCast_self, subf_apply]
  unfold score k1_pay3
  rw [← zero_sub, ← zero_sub (Ideal.log (u (ix3 (0 : Fin 1) r k) + _))]
  have e : shapeCast S256x1000 u shapeCasts_S1x256x1000_S256x1000 (ix2 r k) = u (ix3 (0 : Fin 1) r k) := cast_1ab_ab _ _ r k
  rw [← e, ← Ideal.ofBits_zero_f32]
  rfl

/-! ## A candidate's error -/

theorem token_rows (cb : Vec Ideal S1000x64 .f32) (tok : Vec Ideal S1x1x1024 .i32) (t : Fin 1024 → Fin 1000)
    (ht : ∀ i, tok (ix3 (0 : Fin 1) (0 : Fin 1) i) = BitVec.ofNat 32 (t i).val) (i : Fin 1024) (c : Fin 64) :
    matmul (F := Ideal) (φ₂ := .f32) dot_S1024x1000_S1000x64_S1024x64_1_0_0_1_n_n (some .fp32)
      (sitofp .f32 (extui 32 (cmpi .eq (broadcastTo S1024x1000 (shapeCast S1024x1 (shapeCast S1024 tok shapeCasts_S1x1x1024_S1024)
        shapeCasts_S1024_S1024x1) broadcasts_S1024x1_S1024x1000) (iota .tc S1024x1000 32 [1] iota_S1024x1000_d1_w32)) natLt_1_32) : FVec Ideal S1024x1000 .f32)
      cb (constant S1024x64 .f32 0x00000000#32) (ix2 i c) = cb (ix2 (t i) c) := by
  refine hot_matmul (M := 1024) (K := 1000) (N := 64) _ rfl _ _ _ i _ c fun k => ?_
  refine hot_row (by norm_num) _ _ _ _ _ i _ k ?_
  rw [cast_a_a1, cast_11a_a, ht]

/-- A candidate's error, in every lane. -/
theorem err_apply (cb : Vec Ideal S1000x64 .f32) (a b : Vec Ideal S1x1x1024 .i32) (x : Vec Ideal S1024x64 .f32) (t0 t1 : Fin 1024 → Fin 1000)
    (h0 : ∀ i, a (ix3 (0 : Fin 1) (0 : Fin 1) i) = BitVec.ofNat 32 (t0 i).val)
    (h1 : ∀ i, b (ix3 (0 : Fin 1) (0 : Fin 1) i) = BitVec.ofNat 32 (t1 i).val) (l : Fin 128) :
    k2_pay1 (F := Ideal) cb a b x (ix3 (0 : Fin 1) (0 : Fin 1) l) = err (at2 cb) t0 t1 (at2 x) := by
  unfold k2_pay1
  rw [cast_a_11a, broadcast_apply]
  unfold extractAt
  have e1 : (fun d : Fin S1x1x1.rank => (⟨![0, 0, 0] d, inpos_S1x1x1_p0_0_0 d⟩ : Fin (S1x1x1.size d))) = ix3 (0 : Fin 1) (0 : Fin 1) (0 : Fin 1) := by
    funext d
    match d with
    | ⟨0, _⟩ => rfl
    | ⟨1, _⟩ => rfl
    | ⟨2, _⟩ => rfl
  refine (congrArg _ e1).trans ?_
  rw [cast_a_11a]
  refine (Ideal.multiReduction_add_total _ _ _ (fun d => by match d with | ⟨0, _⟩ => rfl) _ _ _).trans ?_
  unfold shapeCast
  rw [Equiv.sum_comp (Shape.reshapeEquiv shapeCasts_S1024x64_S1x1024x64), sum_idx2]
  unfold err
  refine Finset.sum_congr rfl fun i _ => Finset.sum_congr rfl fun c _ => ?_
  have r0 := token_rows cb a t0 h0 i c
  have r1 := token_rows cb b t1 h1 i c
  have rx : shapeCast S1024x64 x shapeCasts_S1024x64_S1024x64 (ix2 i c) = x (ix2 i c) := congrFun (shapeCast_self x _) _
  unfold gap at2
  rw [← r0, ← r1, ← rx]
  rfl

/-! ## The best candidate -/

/-- The index of the least of 32 errors, as the kernel finds it. -/
def leastIndex (e : Vec Ideal S32x1x1 .f32) : IVec S1 32 :=
  multiReductionI .minsi [1] S1
    (select (cmpf .oeq (shapeCast S1x32 (shapeCast S32 e shapeCasts_S32x1x1_S32 : FVec Ideal S32 .f32) shapeCasts_S32_S1x32)
        (broadcastTo S1x32 (shapeCast S1x1 (multiReduction .minimumf [1] S1
          (shapeCast S1x32 (shapeCast S32 e shapeCasts_S32x1x1_S32 : FVec Ideal S32 .f32) shapeCasts_S32_S1x32) 0x7F800000#32 reduces_S1x32_S1 (.inl rfl) rfl)
          shapeCasts_S1_S1x1) broadcasts_S1x1_S1x32))
      (iota .tc S1x32 32 [1] iota_S1x32_d1_w32) (broadcast S1x32 32#32)) 2147483647#32 reduces_S1x32_S1 rfl

theorem leastIndex_apply (e : Vec Ideal S32x1x1 .f32) :
    leastIndex e (ix1 (0 : Fin 1)) = BitVec.ofNat 32 (first (fun k : Fin 32 => e (ix3 k (0 : Fin 1) (0 : Fin 1)))).val := by
  unfold leastIndex
  refine (row_argmin (a := 1) (b := 32) (by norm_num) _ _ _ _ _ _ _ _ _ (0 : Fin 1)).trans ?_
  refine congrArg (fun f : Fin 32 → EReal => BitVec.ofNat 32 (first f).val) (funext fun k => ?_)
  rw [cast_a_1a, cast_a11_a]

/-- The column that is one at the index a word names. -/
def selector (w : BitVec 32) : IVec S32x1 32 :=
  shapeCast S32x1 (shapeCast S32 (extui 32 (cmpi .eq (iota .tc S1x32 32 [1] iota_S1x32_d1_w32) (broadcast S1x32 w)) natLt_1_32)
    shapeCasts_S1x32_S32) shapeCasts_S32_S32x1

theorem selector_word (s m : Fin 32) : selector (BitVec.ofNat 32 m.val) (ix2 s (0 : Fin 1)) = if s = m then 1#32 else 0#32 := by
  unfold selector
  rw [cast_a_a1, cast_1a_a, extui_apply]
  show BitVec.setWidth 32 (IntOp.cmpi .eq (iota .tc S1x32 32 [1] iota_S1x32_d1_w32 (ix2 (0 : Fin 1) s)) (BitVec.ofNat 32 m.val)) = _
  rw [iota_single_apply, show ((ix2 (0 : Fin 1) s : S1x32.Idx) 1).val = s.val from rfl]
  by_cases h : s = m
  · rw [if_pos h, h]
    simp [IntOp.cmpi]
  · rw [if_neg h]
    have h' : ¬ BitVec.ofNat 32 s.val = BitVec.ofNat 32 m.val := fun hc => h (Fin.ext ((ofNat_eq_iff (by omega) (by omega)).1 hc))
    have h'' : (BitVec.ofNat 32 s.val == BitVec.ofNat 32 m.val) = false := beq_eq_false_iff_ne.2 h'
    simp only [IntOp.cmpi, h'']
    rfl

/-- The column that is one at the candidate of least error and zero elsewhere. -/
theorem selector_apply (e : Vec Ideal S32x1x1 .f32) (s : Fin 32) :
    k3_pay2 (F := Ideal) e (ix2 s (0 : Fin 1))
      = if s = first (fun k : Fin 32 => e (ix3 k (0 : Fin 1) (0 : Fin 1))) then 1#32 else 0#32 := by
  have e1 : (fun d : Fin S1.rank => (⟨![0] d, inpos_S1_p0 d⟩ : Fin (S1.size d))) = ix1 (0 : Fin 1) := by
    funext d
    match d with
    | ⟨0, _⟩ => rfl
  have e2 : k3_pay2 (F := Ideal) e = selector (extractAt ![0] (leastIndex e) inpos_S1_p0) := rfl
  rw [e2, show extractAt ![0] (leastIndex e) inpos_S1_p0 = leastIndex e (ix1 (0 : Fin 1)) from congrArg (leastIndex e) e1,
    leastIndex_apply, selector_word]

/-- The sum of words of which all but one are zero. -/
theorem fold_addi_single {n : Nat} (m : Fin n) (x : Fin n → BitVec 32) (hx : ∀ k, k ≠ m → x k = 0#32) :
    Finset.univ.fold IntOp.addi 0#32 x = x m := by
  classical
  have h0 : ∀ S : Finset (Fin n), m ∉ S → S.fold IntOp.addi 0#32 x = 0#32 := fun S => by
    induction S using Finset.induction_on with
    | empty => intro _; rfl
    | insert k S hk ih =>
      intro hm
      rw [Finset.fold_insert hk, ih fun h => hm (Finset.mem_insert_of_mem h), hx k fun h => hm (h ▸ Finset.mem_insert_self _ _)]
      rfl
  rw [← Finset.insert_erase (Finset.mem_univ m), Finset.fold_insert (Finset.notMem_erase _ _), h0 _ (Finset.notMem_erase _ _)]
  exact BitVec.add_zero _

/-- The best candidate's tokens, as a column. -/
theorem chosen_apply (e : Vec Ideal S32x1x1 .f32) (tok : Vec Ideal S32x1x1024 .i32) (i : Fin 1024) :
    k3_pay4 (F := Ideal) e tok (ix2 i (0 : Fin 1))
      = tok (ix3 (first fun k : Fin 32 => e (ix3 k (0 : Fin 1) (0 : Fin 1))) (0 : Fin 1) i) := by
  unfold k3_pay4
  rw [cast_a_a1]
  refine (col_addi _ _ _ i).trans ?_
  have hx : (fun s : Fin 32 => muli (shapeCast S32x1024 tok shapeCasts_S32x1x1024_S32x1024)
        (broadcastTo S32x1024 (k3_pay2 (F := Ideal) e) broadcasts_S32x1_S32x1024) (ix2 s i))
      = fun s : Fin 32 => tok (ix3 s (0 : Fin 1) i) * (if s = first (fun k : Fin 32 => e (ix3 k (0 : Fin 1) (0 : Fin 1))) then 1#32 else 0#32) :=
    funext fun s => by
      show (shapeCast S32x1024 tok shapeCasts_S32x1x1024_S32x1024 (ix2 s i))
        * (broadcastTo S32x1024 (k3_pay2 (F := Ideal) e) broadcasts_S32x1_S32x1024 (ix2 s i)) = _
      rw [cast_a1b_ab, bcast_a1_ab, selector_apply]
  rw [hx, fold_addi_single (first fun k : Fin 32 => e (ix3 k (0 : Fin 1) (0 : Fin 1))) _ fun k hk => by rw [if_neg hk]; simp]
  simp

/-- The codebook rows of the best candidate's tokens, for the second source. -/
theorem out1_apply (cb : Vec Ideal S1000x64 .f32) (w : IVec S1024x1 32) (t : Fin 1024 → Fin 1000)
    (ht : ∀ i, w (ix2 i (0 : Fin 1)) = BitVec.ofNat 32 (t i).val) (i : Fin 1024) (c : Fin 64) :
    k3_pay1 (F := Ideal) cb (iota .tc S1024x1000 32 [1] iota_S1024x1000_d1_w32) w (ix3 (0 : Fin 1) i c) = cb (ix2 (t i) c) := by
  unfold k3_pay1
  rw [cast_ab_1ab]
  refine hot_matmul (M := 1024) (K := 1000) (N := 64) _ rfl _ _ _ i _ c fun k => ?_
  exact hot_row (by norm_num) _ _ _ _ _ i _ k (ht i)

/-- And for the first. -/
theorem out0_apply (e : Vec Ideal S32x1x1 .f32) (cb : Vec Ideal S1000x64 .f32) (tok : Vec Ideal S32x1x1024 .i32) (t : Fin 1024 → Fin 1000)
    (ht : ∀ i, tok (ix3 (first fun k : Fin 32 => e (ix3 k (0 : Fin 1) (0 : Fin 1))) (0 : Fin 1) i) = BitVec.ofNat 32 (t i).val)
    (i : Fin 1024) (c : Fin 64) : k3_pay3 (F := Ideal) e cb tok (ix3 (0 : Fin 1) i c) = cb (ix2 (t i) c) :=
  out1_apply cb (k3_pay4 (F := Ideal) e tok) t (fun i => (chosen_apply e tok i).trans (ht i)) i c

end Cert.KernelIdeal.Value
-- ==== Proof.Region1.lean ====
/- The arrays the kernel's second region leaves: each of its 128 points draws 256 frames' tokens for one hypothesis, so
   the arrays hold every hypothesis's tokens. -/
module

public import proofs.«01_k».proof.Proof.K123
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Cert.KernelIdeal.Gen Cert.Spec
open Idealize.ShloMosaic Idealize.ShloMosaic.TcCoe Idealize.ShloMosaic.Tactic
open Idealize.ShloMosaic.Pipeline

variable (V : (c : Dev nD) → (b : Ref sig .tc) → Buf (Elt Ideal) ((c : Thread nD τ).loc b))

theorem idx1_0 : ∀ t : Fin cfg1.N, win1_0.index t = ![t.val % 32, t.val / 32, 0] :=
  (by decide +kernel : ∀ t : Fin grid1.N, _)
theorem idx1_1 : ∀ t : Fin cfg1.N, win1_1.index t = ![t.val % 32, t.val / 32, 0] :=
  (by decide +kernel : ∀ t : Fin grid1.N, _)
theorem idx1_2 : ∀ t : Fin cfg1.N, win1_2.index t = ![t.val / 32, 0] :=
  (by decide +kernel : ∀ t : Fin grid1.N, _)
theorem idx1_3 : ∀ t : Fin cfg1.N, win1_3.index t = ![t.val / 32, 0] :=
  (by decide +kernel : ∀ t : Fin grid1.N, _)
theorem idx1_4 : ∀ t : Fin cfg1.N, win1_4.index t = ![t.val % 32, 0, t.val / 32] :=
  (by decide +kernel : ∀ t : Fin grid1.N, _)
theorem idx1_5 : ∀ t : Fin cfg1.N, win1_5.index t = ![t.val % 32, 0, t.val / 32] :=
  (by decide +kernel : ∀ t : Fin grid1.N, _)

/-- Every hypothesis's tokens, from the uniforms and the filtered logits. -/
def toks (u : Vec Ideal S32x1024x1000 .f32) (f : Vec Ideal S1024x1000 .f32) : Vec Ideal S32x1x1024 .i32 := fun j =>
  BitVec.ofNat 32 (draw (fun k : Fin 1000 => f (ix2 (j 2) k)) (fun k => u (ix3 (j 0) (j 2) k))).val

theorem blk1_0 (c : Dev nD) (t : Fin cfg1.N) (r : Fin 256) (k : Fin 1000) (a : Fin 32) (b : Fin 1024)
    (ha : a.val = t.val % 32) (hb : b.val = t.val / 32 * 256 + r.val) :
    iblk1 V c 0 t (ix3 (0 : Fin 1) r k) = V c main_arg1 (ix3 a b k) := by
  blk_simp [iblk1]
  congr 1
  blk_ext [idx1_0 t]

theorem blk1_1 (c : Dev nD) (t : Fin cfg1.N) (r : Fin 256) (k : Fin 1000) (a : Fin 32) (b : Fin 1024)
    (ha : a.val = t.val % 32) (hb : b.val = t.val / 32 * 256 + r.val) :
    iblk1 V c 1 t (ix3 (0 : Fin 1) r k) = V c main_arg2 (ix3 a b k) := by
  blk_simp [iblk1]
  congr 1
  blk_ext [idx1_1 t]

theorem blk1_2 (c : Dev nD) (t : Fin cfg1.N) (r : Fin 256) (k : Fin 1000) (b : Fin 1024)
    (hb : b.val = t.val / 32 * 256 + r.val) :
    iblk1 V c 2 t (ix2 r k) = V c main_v1_0 (ix2 b k) := by
  blk_simp [iblk1]
  congr 1
  blk_ext [idx1_2 t]

theorem blk1_3 (c : Dev nD) (t : Fin cfg1.N) (r : Fin 256) (k : Fin 1000) (b : Fin 1024)
    (hb : b.val = t.val / 32 * 256 + r.val) :
    iblk1 V c 3 t (ix2 r k) = V c main_v1_1 (ix2 b k) := by
  blk_simp [iblk1]
  congr 1
  blk_ext [idx1_3 t]

theorem last_of_unit (y : S1x1x256.Idx) : ∃ r : Fin 256, y = ix3 (0 : Fin 1) (0 : Fin 1) r :=
  ⟨y 2, (eq_ix3 y).trans (congrArg₂ (fun a b => ix3 a b (y 2)) (Subsingleton.elim _ _) (Subsingleton.elim _ _))⟩

theorem emb1_4 (t : Fin cfg1.N) (r : Fin 256) (a : Fin 32) (b : Fin 1024)
    (ha : a.val = t.val % 32) (hb : b.val = t.val / 32 * 256 + r.val) :
    ((cfg1.win 4).blk t).view.emb (ix3 (0 : Fin 1) (0 : Fin 1) r) = ix3 a (0 : Fin 1) b := by
  blk_ext [idx1_4 t]

theorem emb1_5 (t : Fin cfg1.N) (r : Fin 256) (a : Fin 32) (b : Fin 1024)
    (ha : a.val = t.val % 32) (hb : b.val = t.val / 32 * 256 + r.val) :
    ((cfg1.win 5).blk t).view.emb (ix3 (0 : Fin 1) (0 : Fin 1) r) = ix3 a (0 : Fin 1) b := by
  blk_ext [idx1_5 t]

theorem final1_4 (c : Dev nD) : (dat1 V c).arrAt 4 cfg1.N = toks (V c main_arg1) (V c main_v1_0) := by
  refine (dat1 V c).arrAt_eq_of_covers 4 _ (by decide +kernel) fun t hf y => ?_
  rw [after1_4]
  obtain ⟨r, rfl⟩ := last_of_unit y
  have ht : t.val < 128 := lt_of_lt_of_eq t.isLt (by decide +kernel)
  rw [emb1_4 t r ⟨t.val % 32, by omega⟩ ⟨t.val / 32 * 256 + r.val, by omega⟩ rfl rfl]
  blk_simp
  frame_out
  refine (draw0_apply _ _ r).trans ?_
  unfold toks
  refine congrArg₂ (fun f u => BitVec.ofNat 32 (draw f u).val) ?_ ?_
  · exact funext fun k => blk1_2 V c t r k _ rfl
  · exact funext fun k => blk1_0 V c t r k _ _ rfl rfl

theorem final1_5 (c : Dev nD) : (dat1 V c).arrAt 5 cfg1.N = toks (V c main_arg2) (V c main_v1_1) := by
  refine (dat1 V c).arrAt_eq_of_covers 5 _ (by decide +kernel) fun t hf y => ?_
  rw [after1_5]
  obtain ⟨r, rfl⟩ := last_of_unit y
  have ht : t.val < 128 := lt_of_lt_of_eq t.isLt (by decide +kernel)
  rw [emb1_5 t r ⟨t.val % 32, by omega⟩ ⟨t.val / 32 * 256 + r.val, by omega⟩ rfl rfl]
  blk_simp
  frame_out
  refine (draw1_apply _ _ r).trans ?_
  unfold toks
  refine congrArg₂ (fun f u => BitVec.ofNat 32 (draw f u).val) ?_ ?_
  · exact funext fun k => blk1_3 V c t r k _ rfl
  · exact funext fun k => blk1_1 V c t r k _ _ rfl rfl

end Cert.KernelIdeal.Value
-- ==== Proof.Region2.lean ====
/- The array the kernel's third region leaves: point `t` puts hypothesis `t`'s error in each of its 128 lanes. -/
module

public import proofs.«01_k».proof.Proof.K123
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Cert.KernelIdeal.Gen Cert.Spec
open Idealize.ShloMosaic Idealize.ShloMosaic.TcCoe Idealize.ShloMosaic.Tactic
open Idealize.ShloMosaic.Pipeline

variable (V : (c : Dev nD) → (b : Ref sig .tc) → Buf (Elt Ideal) ((c : Thread nD τ).loc b))

theorem idx2_0 : ∀ t : Fin cfg2.N, win2_0.index t = ![t.val, 0, 0] :=
  (by decide +kernel : ∀ t : Fin grid2.N, _)
theorem idx2_1 : ∀ t : Fin cfg2.N, win2_1.index t = ![t.val, 0, 0] :=
  (by decide +kernel : ∀ t : Fin grid2.N, _)
theorem idx2_2 : ∀ t : Fin cfg2.N, win2_2.index t = ![0, 0] :=
  (by decide +kernel : ∀ t : Fin grid2.N, _)
theorem idx2_3 : ∀ t : Fin cfg2.N, win2_3.index t = ![0, 0] :=
  (by decide +kernel : ∀ t : Fin grid2.N, _)
theorem idx2_4 : ∀ t : Fin cfg2.N, win2_4.index t = ![t.val, 0, 0] :=
  (by decide +kernel : ∀ t : Fin grid2.N, _)

theorem blk2_0 (c : Dev nD) (t : Fin cfg2.N) (i : Fin 1024) (a : Fin 32) (ha : a.val = t.val) :
    iblk2 V c 0 t (ix3 (0 : Fin 1) (0 : Fin 1) i) = V c main_v2_0 (ix3 a (0 : Fin 1) i) := by
  blk_simp [iblk2]
  congr 1
  blk_ext [idx2_0 t]

theorem blk2_1 (c : Dev nD) (t : Fin cfg2.N) (i : Fin 1024) (a : Fin 32) (ha : a.val = t.val) :
    iblk2 V c 1 t (ix3 (0 : Fin 1) (0 : Fin 1) i) = V c main_v2_1 (ix3 a (0 : Fin 1) i) := by
  blk_simp [iblk2]
  congr 1
  blk_ext [idx2_1 t]

theorem blk2_2 (c : Dev nD) (t : Fin cfg2.N) : iblk2 V c 2 t = V c main_v0 := by
  funext y
  blk_simp [iblk2]
  congr 1
  blk_ext [idx2_2 t]

theorem blk2_3 (c : Dev nD) (t : Fin cfg2.N) : iblk2 V c 3 t = V c main_arg3 := by
  funext y
  blk_simp [iblk2]
  congr 1
  blk_ext [idx2_3 t]

theorem lane_of_unit (y : S1x1x128.Idx) : ∃ r : Fin 128, y = ix3 (0 : Fin 1) (0 : Fin 1) r :=
  ⟨y 2, (eq_ix3 y).trans (congrArg₂ (fun a b => ix3 a b (y 2)) (Subsingleton.elim _ _) (Subsingleton.elim _ _))⟩

theorem emb2_4 (t : Fin cfg2.N) (r : Fin 128) (a : Fin 32) (ha : a.val = t.val) :
    ((cfg2.win 4).blk t).view.emb (ix3 (0 : Fin 1) (0 : Fin 1) r) = ix3 a (0 : Fin 1) r := by
  blk_ext [idx2_4 t]

/-- Every hypothesis's error, repeated over the lanes. -/
def errs (cb : Vec Ideal S1000x64 .f32) (T0 T1 : Fin 32 → Fin 1024 → Fin 1000) (x : Vec Ideal S1024x64 .f32) : Vec Ideal S32x1x128 .f32 :=
  fun j => err (at2 cb) (T0 (j 0)) (T1 (j 0)) (at2 x)

theorem final2_4 (c : Dev nD) (T0 T1 : Fin 32 → Fin 1024 → Fin 1000)
    (h0 : ∀ a i, V c main_v2_0 (ix3 a (0 : Fin 1) i) = BitVec.ofNat 32 (T0 a i).val)
    (h1 : ∀ a i, V c main_v2_1 (ix3 a (0 : Fin 1) i) = BitVec.ofNat 32 (T1 a i).val) :
    (dat2 V c).arrAt 4 cfg2.N = errs (V c main_arg3) T0 T1 (V c main_v0) := by
  refine (dat2 V c).arrAt_eq_of_covers 4 _ (by decide +kernel) fun t hf y => ?_
  rw [after2_4]
  obtain ⟨r, rfl⟩ := lane_of_unit y
  have ht : t.val < 32 := lt_of_lt_of_eq t.isLt (by decide +kernel)
  rw [emb2_4 t r ⟨t.val, ht⟩ rfl]
  blk_simp
  frame_out
  rw [blk2_2, blk2_3]
  exact err_apply _ _ _ _ (T0 ⟨t.val, ht⟩) (T1 ⟨t.val, ht⟩)
    (fun i => (blk2_0 V c t i _ rfl).trans (h0 _ i)) (fun i => (blk2_1 V c t i _ rfl).trans (h1 _ i)) r

end Cert.KernelIdeal.Value
-- ==== Proof.Region3.lean ====
/- The array the kernel's last region leaves: for each source the codes at the tokens of the hypothesis of least error. -/
module

public import proofs.«01_k».proof.Proof.K123
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Cert.KernelIdeal.Gen Cert.Spec Cert.Arg
open Idealize.ShloMosaic Idealize.ShloMosaic.TcCoe Idealize.ShloMosaic.Tactic
open Idealize.ShloMosaic.Pipeline

variable (V : (c : Dev nD) → (b : Ref sig .tc) → Buf (Elt Ideal) ((c : Thread nD τ).loc b))

theorem idx3_0 : ∀ t : Fin cfg3.N, win3_0.index t = ![0, 0, 0] :=
  (by decide +kernel : ∀ t : Fin grid3.N, _)
theorem idx3_1 : ∀ t : Fin cfg3.N, win3_1.index t = ![0, 0, 0] :=
  (by decide +kernel : ∀ t : Fin grid3.N, _)
theorem idx3_2 : ∀ t : Fin cfg3.N, win3_2.index t = ![0, 0, 0] :=
  (by decide +kernel : ∀ t : Fin grid3.N, _)
theorem idx3_3 : ∀ t : Fin cfg3.N, win3_3.index t = ![0, 0] :=
  (by decide +kernel : ∀ t : Fin grid3.N, _)
theorem idx3_4 : ∀ t : Fin cfg3.N, win3_4.index t = ![0, 0, 0] :=
  (by decide +kernel : ∀ t : Fin grid3.N, _)

theorem blk3_0 (c : Dev nD) (t : Fin cfg3.N) : iblk3 V c 0 t = V c main_v3 := by
  funext y
  blk_simp [iblk3]
  congr 1
  blk_ext [idx3_0 t]

theorem blk3_1 (c : Dev nD) (t : Fin cfg3.N) : iblk3 V c 1 t = V c main_v2_0 := by
  funext y
  blk_simp [iblk3]
  congr 1
  blk_ext [idx3_1 t]

theorem blk3_2 (c : Dev nD) (t : Fin cfg3.N) : iblk3 V c 2 t = V c main_v2_1 := by
  funext y
  blk_simp [iblk3]
  congr 1
  blk_ext [idx3_2 t]

theorem blk3_3 (c : Dev nD) (t : Fin cfg3.N) : iblk3 V c 3 t = V c main_arg3 := by
  funext y
  blk_simp [iblk3]
  congr 1
  blk_ext [idx3_3 t]

/-- The last region's array is what its one point leaves of the whole arrays. -/
theorem final3_4 (c : Dev nD) :
    (dat3 V c).arrAt 4 cfg3.N = out3_4 (V c main_v3) (V c main_v2_0) (V c main_v2_1) (V c main_arg3) := by
  refine (dat3 V c).arrAt_eq_of_covers 4 _ (by decide +kernel) fun t hf y => ?_
  blk_simp
  rw [after3_4, blk3_0, blk3_1, blk3_2, blk3_3]
  refine congrArg (out3_4 (V c main_v3) (V c main_v2_0) (V c main_v2_1) (V c main_arg3)) ?_
  blk_ext [idx3_4 t]

theorem emb3_3 (i : Fin 1024) (k : Fin 64) : r3_3.emb (ix3 (0 : Fin 1) i k) = ix3 (0 : Fin 2) i k := by
  funext a; apply Fin.ext
  refine (Rect.idx_unit_val _ _ _ _ a).trans ?_
  fin_cases a <;> simp [ix3]

theorem emb3_4 (i : Fin 1024) (k : Fin 64) : r3_4.emb (ix3 (0 : Fin 1) i k) = ix3 (1 : Fin 2) i k := by
  funext a; apply Fin.ext
  refine (Rect.idx_unit_val _ _ _ _ a).trans ?_
  fin_cases a <;> simp [ix3]

theorem not_mem3_4 (i : Fin 1024) (k : Fin 64) : ix3 (0 : Fin 2) i k ∉ r3_4.set := fun h => by
  obtain ⟨x, hx⟩ := r3_4.exists_idx_of_mem h
  have h0 := congrArg Fin.val (congrFun hx 0)
  have h1 := Rect.idx_unit_val (s := S2x1024x64) ![1, 0, 0] S1x1024x64.size inb_S2x1024x64_S1x1024x64_1_0_0 x 0
  have h2 := h0.symm.trans h1
  simp [ix3] at h2

/-- The last store leaves the first source alone. -/
theorem canon_skip (w : Vec Ideal S1x1024x64 .f32) (L : List (View.Piece (Elt Ideal) S2x1024x64 .f32)) (i : Fin 1024) (k : Fin 64) :
    View.canon (⟨r3_4, w⟩ :: L) (ix3 (0 : Fin 2) i k) = View.canon L (ix3 (0 : Fin 2) i k) :=
  have h : ix3 (0 : Fin 2) i k ∉ (⟨r3_4, w⟩ : View.Piece (Elt Ideal) S2x1024x64 .f32).1.set := not_mem3_4 i k
  View.canon_cons_of_not_mem _ _ h

/-- The hypothesis of least error. -/
def best (e : Vec Ideal S32x1x128 .f32) : Fin 32 := first fun k : Fin 32 => e (ix3 k (0 : Fin 1) (0 : Fin 128))

theorem ld_err (e : Vec Ideal S32x1x128 .f32) (k : Fin 32) :
    View.ld e r3_0 (ix3 k (0 : Fin 1) (0 : Fin 1)) = e (ix3 k (0 : Fin 1) (0 : Fin 128)) := by
  refine View.ld_unit_apply_of _ _ _ _ _ _ fun a => ?_
  fin_cases a <;> simp [ix3]

theorem out3_first (e : Vec Ideal S32x1x128 .f32) (a b : Vec Ideal S32x1x1024 .i32) (cb : Vec Ideal S1000x64 .f32)
    (t : Fin 1024 → Fin 1000) (ht : ∀ i, a (ix3 (best e) (0 : Fin 1) i) = BitVec.ofNat 32 (t i).val) (i : Fin 1024) (k : Fin 64) :
    out3_4 e a b cb (ix3 (0 : Fin 2) i k) = cb (ix2 (t i) k) := by
  unfold out3_4
  refine (canon_skip _ _ i k).trans ?_
  refine (congrArg _ (emb3_3 i k).symm).trans ?_
  refine (View.canon_cons_emb _ _ _ _).trans ?_
  rw [View.ld_unit_lit _ _ (by decide), View.ld_unit_lit _ _ (by decide)]
  refine out0_apply _ cb a t (fun i => ?_) i k
  rw [← ht i]
  refine congrArg (fun q => a (ix3 q (0 : Fin 1) i)) (congrArg first (funext fun k => ld_err e k))

theorem out3_second (e : Vec Ideal S32x1x128 .f32) (a b : Vec Ideal S32x1x1024 .i32) (cb : Vec Ideal S1000x64 .f32)
    (t : Fin 1024 → Fin 1000) (ht : ∀ i, b (ix3 (best e) (0 : Fin 1) i) = BitVec.ofNat 32 (t i).val) (i : Fin 1024) (k : Fin 64) :
    out3_4 e a b cb (ix3 (1 : Fin 2) i k) = cb (ix2 (t i) k) := by
  unfold out3_4
  refine (congrArg _ (emb3_4 i k).symm).trans ?_
  refine (View.canon_cons_emb _ _ _ _).trans ?_
  rw [View.ld_unit_lit _ _ (by decide), View.ld_unit_lit _ _ (by decide)]
  refine out1_apply cb _ t (fun i => ?_) i k
  refine (chosen_apply _ b i).trans ?_
  rw [← ht i]
  refine congrArg (fun q => b (ix3 q (0 : Fin 1) i)) (congrArg first (funext fun k => ld_err e k))

end Cert.KernelIdeal.Value
-- ==== Proof.KernelValue.lean ====
/- The kernel's result in coordinates: the regions' arrays composed. -/
module

public import proofs.«01_k».proof.Proof.Region0
public import proofs.«01_k».proof.Proof.Region1
public import proofs.«01_k».proof.Proof.Region2
public import proofs.«01_k».proof.Proof.Region3
public import Idealize.ShloMosaic.Lib.StableHlo.RunRead

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.Pipeline Cert.Spec Cert.Arg Cert.Shapes

variable (m : (ℓ : Loc nD τ sig) → Buf (Elt Ideal) ℓ) (ρ : Dev nD → PrngReg) (c : Dev nD)

/-- The entries the kernel's filter keeps of a row. -/
def kept (l : Row) : Row := keep (cut l) l

/-- The arguments in coordinates. -/
def argX : Frames := framesOf (m ((c : Thread nD τ).loc main_arg0))
def argU0 : Fin 32 → Fin 1024 → Row := at3 (a := 32) (b := 1024) (c := 1000) (m ((c : Thread nD τ).loc main_arg1))
def argU1 : Fin 32 → Fin 1024 → Row := at3 (a := 32) (b := 1024) (c := 1000) (m ((c : Thread nD τ).loc main_arg2))
def argCb : Codes := at2 (a := 1000) (b := 64) (m ((c : Thread nD τ).loc main_arg3))
def argP0 : Fin 1000 → Row := at2 (a := 1000) (b := 1000) (m ((c : Thread nD τ).loc main_arg4))
def argP1 : Fin 1000 → Row := at2 (a := 1000) (b := 1000) (m ((c : Thread nD τ).loc main_arg5))

/-- The frames the first host stretch makes. -/
theorem w1_v0 : W1 m ρ c (Proc.devRef .tc main_v0)
    = shapeCast S1024x64 (m ((c : Thread nD τ).loc main_arg0)) shapeCasts_S65536_S1024x64 := by
  unfold W1
  after_reads_simp
  rfl

theorem frames_eq : at2 (a := 1024) (b := 64) (W1 m ρ c (Proc.devRef .tc main_v0)) = argX m c := by
  funext i k
  unfold at2
  rw [w1_v0]
  exact cast_flat_ab _ _ i k _ rfl

theorem w2_arg (r : Ref sig .tc) (hr : r ∈ argRefs) : V2 m ρ c r = m ((c : Thread nD τ).loc r) := W2_args m ρ c r hr

/-- The first source's filtered logits. -/
theorem v2_0 (i : Fin 1024) (k : Fin 1000) :
    V2 m ρ c main_v1_0 (ix2 i k) = kept (argP0 m c (code (argX m c) (argCb m c) i)) k := by
  have h : V2 m ρ c main_v1_0 = filt0 (V1 m ρ c main_v0) (V1 m ρ c main_arg3) (V1 m ρ c main_arg4) :=
    (W2_arr m ρ c 4).trans (final0_4 (V1 m ρ) c)
  rw [h]
  refine (filt0_apply _ _ _ i k).trans ?_
  rw [show V1 m ρ c main_arg3 = m ((c : Thread nD τ).loc main_arg3) from W1_args m ρ c _ (by decide),
    show V1 m ρ c main_arg4 = m ((c : Thread nD τ).loc main_arg4) from W1_args m ρ c _ (by decide),
    show at2 (a := 1024) (b := 64) (V1 m ρ c main_v0) = argX m c from frames_eq m ρ c]
  rfl

/-- The second source's. -/
theorem v2_1 (i : Fin 1024) (k : Fin 1000) :
    V2 m ρ c main_v1_1 (ix2 i k) = kept (argP1 m c (code (argX m c) (argCb m c) i)) k := by
  have h : V2 m ρ c main_v1_1 = filt1 (V1 m ρ c main_v0) (V1 m ρ c main_arg3) (V1 m ρ c main_arg5) :=
    (W2_arr m ρ c 5).trans (final0_5 (V1 m ρ) c)
  rw [h]
  refine (filt1_apply _ _ _ i k).trans ?_
  rw [show V1 m ρ c main_arg3 = m ((c : Thread nD τ).loc main_arg3) from W1_args m ρ c _ (by decide),
    show V1 m ρ c main_arg5 = m ((c : Thread nD τ).loc main_arg5) from W1_args m ρ c _ (by decide),
    show at2 (a := 1024) (b := 64) (V1 m ρ c main_v0) = argX m c from frames_eq m ρ c]
  rfl

/-- The sources' tokens. -/
def tok0 : Fin 32 → Fin 1024 → Fin 1000 := Spec.token kept (argX m c) (argCb m c) (argP0 m c) (argU0 m c)
def tok1 : Fin 32 → Fin 1024 → Fin 1000 := Spec.token kept (argX m c) (argCb m c) (argP1 m c) (argU1 m c)

theorem v3_0 (h : Fin 32) (i : Fin 1024) :
    V3 m ρ c main_v2_0 (ix3 h (0 : Fin 1) i) = BitVec.ofNat 32 (tok0 m c h i).val := by
  have e : V3 m ρ c main_v2_0 = toks (V2 m ρ c main_arg1) (V2 m ρ c main_v1_0) :=
    (W3_arr m ρ c 4).trans (final1_4 (V2 m ρ) c)
  rw [e]
  unfold toks tok0 Spec.token
  refine congrArg₂ (fun f u => BitVec.ofNat 32 (draw f u).val) (funext fun k => v2_0 m ρ c i k) (funext fun k => ?_)
  rw [w2_arg m ρ c main_arg1 (by decide)]
  rfl

theorem v3_1 (h : Fin 32) (i : Fin 1024) :
    V3 m ρ c main_v2_1 (ix3 h (0 : Fin 1) i) = BitVec.ofNat 32 (tok1 m c h i).val := by
  have e : V3 m ρ c main_v2_1 = toks (V2 m ρ c main_arg2) (V2 m ρ c main_v1_1) :=
    (W3_arr m ρ c 5).trans (final1_5 (V2 m ρ) c)
  rw [e]
  unfold toks tok1 Spec.token
  refine congrArg₂ (fun f u => BitVec.ofNat 32 (draw f u).val) (funext fun k => v2_1 m ρ c i k) (funext fun k => ?_)
  rw [w2_arg m ρ c main_arg2 (by decide)]
  rfl

/-- The frames are unchanged up to the third region. -/
theorem v3_frames : at2 (a := 1024) (b := 64) (V3 m ρ c main_v0) = argX m c := by
  have e : V3 m ρ c main_v0 = V1 m ρ c main_v0 :=
    (W3_of m ρ c main_v0 (by decide)).trans (W2_of m ρ c main_v0 (by decide))
  rw [e]
  exact frames_eq m ρ c

/-- The hypotheses' errors. -/
theorem v4_err : V4 m ρ c main_v3 = errs (m ((c : Thread nD τ).loc main_arg3)) (tok0 m c) (tok1 m c) (V3 m ρ c main_v0) := by
  refine (W4_arr m ρ c 4).trans ?_
  refine (final2_4 (V3 m ρ) c (tok0 m c) (tok1 m c) (v3_0 m ρ c) (v3_1 m ρ c)).trans ?_
  rw [show V3 m ρ c main_arg3 = m ((c : Thread nD τ).loc main_arg3) from W3_args m ρ c _ (by decide)]

/-- The hypothesis the last region picks. -/
theorem v4_best : best (V4 m ρ c main_v3) = bestOf (argX m c) (argCb m c) (tok0 m c) (tok1 m c) := by
  rw [v4_err]
  unfold best bestOf errs
  rw [v3_frames]
  rfl

/-- The kernel's result in coordinates. -/
theorem result_apply (q : Fin 2) (i : Fin 1024) (k : Fin 64) (j : Fin 65536) (hj : j.val = i.val * 64 + k.val) :
    W6 m ρ c (Proc.devRef .tc main_v5) (ix2 q j)
      = answer kept (argX m c) (argCb m c) (argP0 m c) (argP1 m c) (argU0 m c) (argU1 m c) q i k := by
  have e : W6 m ρ c (Proc.devRef .tc main_v5)
      = shapeCast S2x65536 (W5 m ρ c (Proc.devRef .tc main_v4)) shapeCasts_S2x1024x64_S2x65536 := by
    unfold W6
    after_reads_simp
    rfl
  rw [e]
  refine (cast_abc_flat _ _ rfl q i k j hj).trans ?_
  have e4 : W5 m ρ c (Proc.devRef .tc main_v4)
      = out3_4 (V4 m ρ c main_v3) (V4 m ρ c main_v2_0) (V4 m ρ c main_v2_1) (V4 m ρ c main_arg3) :=
    (W5_arr m ρ c 4).trans (final3_4 (V4 m ρ) c)
  have ecb : V4 m ρ c main_arg3 = m ((c : Thread nD τ).loc main_arg3) := W4_args m ρ c _ (by decide)
  have e0 : V4 m ρ c main_v2_0 = V3 m ρ c main_v2_0 := W4_of m ρ c main_v2_0 (by decide)
  have e1 : V4 m ρ c main_v2_1 = V3 m ρ c main_v2_1 := W4_of m ρ c main_v2_1 (by decide)
  rw [e4, ecb, e0, e1]
  have hb := v4_best m ρ c
  match q with
  | 0 =>
    refine (out3_first _ _ _ _ (tok0 m c (best (V4 m ρ c main_v3))) (fun i => v3_0 m ρ c _ i) i k).trans ?_
    rw [hb]; rfl
  | 1 =>
    refine (out3_second _ _ _ _ (tok1 m c (best (V4 m ρ c main_v3))) (fun i => v3_1 m ρ c _ i) i k).trans ?_
    rw [hb]; rfl

end Cert.KernelIdeal.Value
-- ==== Proof.RefRun.lean ====
/- The reference as a straight line of host operations, cut into stages, and the run of that line.  Each list below names the
   operations of one stage in the order in which @main runs them, a called function's operations standing in its place. -/
module

public import proofs.«01_k».proof.Proof.Gen.ReferenceIdeal
public import Idealize.ShloMosaic.Lib.StableHlo.RunHlo
public import Idealize.ShloMosaic.Lib.StableHlo.RunRead

@[expose] public section

noncomputable section

namespace Cert.ReferenceIdeal.Line

open Idealize.ShloMosaic Idealize.ShloMosaic.TcCoe Idealize.SL.Sem Idealize.ShloMosaic.StableHlo
open Cert.ReferenceIdeal.Facts₀

variable {F : FTy → Type} [FloatOps F]

/-- Operations that compute squared distances of the frames to the codes. -/
def dist : List (HloOp τ sig (Elt F)) :=
  [StableHlo.reshape main_arg0 main_v0 (rfl : (.f32 : EltTy) = .f32) shapeCasts_S65536_S1024x64,
   StableHlo.binary main_v0 main_v0 main_v1 (mulf : (⟨S1024x64, .f32⟩ : BufTy).Contents (Elt F) → (⟨S1024x64, .f32⟩ : BufTy).Contents (Elt F) → (⟨S1024x64, .f32⟩ : BufTy).Contents (Elt F)),
   StableHlo.nullary main_cst ((constant S_ .f32 0x00000000#32) : (⟨S_, .f32⟩ : BufTy).Contents (Elt F)),
   StableHlo.binary main_v1 main_cst main_v2 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v2 main_v3 (broadcastInDim S1024x1 ![0] bcast_S1024_S1024x1_0 : (⟨S1024, .f32⟩ : BufTy).Contents (Elt F) → (⟨S1024x1, .f32⟩ : BufTy).Contents (Elt F)),
   StableHlo.nullary main_cst_0 ((constant S_ .f32 0x40000000#32) : (⟨S_, .f32⟩ : BufTy).Contents (Elt F)),
   StableHlo.unary main_cst_0 main_v4 (broadcastInDim S1024x64 ![] bcast_S_S1024x64 : (⟨S_, .f32⟩ : BufTy).Contents (Elt F) → (⟨S1024x64, .f32⟩ : BufTy).Contents (Elt F)),
   StableHlo.binary main_v4 main_v0 main_v5 (mulf : (⟨S1024x64, .f32⟩ : BufTy).Contents (Elt F) → (⟨S1024x64, .f32⟩ : BufTy).Contents (Elt F) → (⟨S1024x64, .f32⟩ : BufTy).Contents (Elt F)),
   StableHlo.unary main_arg3 main_v6 ((transpose S64x1000 [1, 0] · transposes_S1000x64_S64x1000_1_0) : (⟨S1000x64, .f32⟩ : BufTy).Contents (Elt F) → (⟨S64x1000, .f32⟩ : BufTy).Contents (Elt F)),
   StableHlo.binary main_v5 main_v6 main_v7 ((fun l r => Host.dotGeneral dot_S1024x64_S64x1000_S1024x1000_1_0_0_1_n_n none l r) : (⟨S1024x64, .f32⟩ : BufTy).Contents (Elt F) → (⟨S64x1000, .f32⟩ : BufTy).Contents (Elt F) → (⟨S1024x1000, .f32⟩ : BufTy).Contents (Elt F)),
   StableHlo.unary main_v3 main_v8 (broadcastInDim S1024x1000 ![0, 1] bcast_S1024x1_S1024x1000_0_1 : (⟨S1024x1, .f32⟩ : BufTy).Contents (Elt F) → (⟨S1024x1000, .f32⟩ : BufTy).Contents (Elt F)),
   StableHlo.binary main_v8 main_v7 main_v9 (subf : (⟨S1024x1000, .f32⟩ : BufTy).Contents (Elt F) → (⟨S1024x1000, .f32⟩ : BufTy).Contents (Elt F) → (⟨S1024x1000, .f32⟩ : BufTy).Contents (Elt F)),
   StableHlo.binary main_arg3 main_arg3 main_v10 (mulf : (⟨S1000x64, .f32⟩ : BufTy).Contents (Elt F) → (⟨S1000x64, .f32⟩ : BufTy).Contents (Elt F) → (⟨S1000x64, .f32⟩ : BufTy).Contents (Elt F)),
   StableHlo.nullary main_cst_1 ((constant S_ .f32 0x00000000#32) : (⟨S_, .f32⟩ : BufTy).Contents (Elt F)),
   StableHlo.binary main_v10 main_cst_1 main_v11 ((fun x v => Host.reduceAdd x v reducesTo_S1000x64_S1000_d1 h_S_) : (⟨S1000x64, .f32⟩ : BufTy).Contents (Elt F) → (⟨S_, .f32⟩ : BufTy).Contents (Elt F) → (⟨S1000, .f32⟩ : BufTy).Contents (Elt F)),
   StableHlo.unary main_v11 main_v12 (broadcastInDim S1x1000 ![1] bcast_S1000_S1x1000_1 : (⟨S1000, .f32⟩ : BufTy).Contents (Elt F) → (⟨S1x1000, .f32⟩ : BufTy).Contents (Elt F)),
   StableHlo.unary main_v12 main_v13 (broadcastInDim S1024x1000 ![0, 1] bcast_S1x1000_S1024x1000_0_1 : (⟨S1x1000, .f32⟩ : BufTy).Contents (Elt F) → (⟨S1024x1000, .f32⟩ : BufTy).Contents (Elt F)),
   StableHlo.binary main_v9 main_v13 main_v14 (addf : (⟨S1024x1000, .f32⟩ : BufTy).Contents (Elt F) → (⟨S1024x1000, .f32⟩ : BufTy).Contents (Elt F) → (⟨S1024x1000, .f32⟩ : BufTy).Contents (Elt F))]

/-- Operations that compute the nearest code of every frame. -/
def near : List (HloOp τ sig (Elt F)) :=
  [StableHlo.nullary main_call0_v0 ((iotaInDim S1024x1000 32 1) : (⟨S1024x1000, .i32⟩ : BufTy).Contents (Elt F)),
   StableHlo.nullary main_call0_cst ((constant S_ .f32 0x7F800000#32) : (⟨S_, .f32⟩ : BufTy).Contents (Elt F)),
   StableHlo.nullary main_call0_c ((constantI S_ 32 0#32) : (⟨S_, .i32⟩ : BufTy).Contents (Elt F)),
   StableHlo.quaternary main_v14 main_call0_v0 main_call0_cst main_call0_c main_call0_v1_0 ((fun x y u v j => (Host.argReduce reducer_argmin_f32_i32 x y u v reducesTo_S1024x1000_S1024_d1 h_S_ j).1) : (⟨S1024x1000, .f32⟩ : BufTy).Contents (Elt F) → (⟨S1024x1000, .i32⟩ : BufTy).Contents (Elt F) → (⟨S_, .f32⟩ : BufTy).Contents (Elt F) → (⟨S_, .i32⟩ : BufTy).Contents (Elt F) → (⟨S1024, .f32⟩ : BufTy).Contents (Elt F)),
   StableHlo.quaternary main_v14 main_call0_v0 main_call0_cst main_call0_c main_v15 ((fun x y u v j => (Host.argReduce reducer_argmin_f32_i32 x y u v reducesTo_S1024x1000_S1024_d1 h_S_ j).2) : (⟨S1024x1000, .f32⟩ : BufTy).Contents (Elt F) → (⟨S1024x1000, .i32⟩ : BufTy).Contents (Elt F) → (⟨S_, .f32⟩ : BufTy).Contents (Elt F) → (⟨S_, .i32⟩ : BufTy).Contents (Elt F) → (⟨S1024, .i32⟩ : BufTy).Contents (Elt F))]

/-- Operations that compute the prior rows of the codes, first source. -/
def takeA : List (HloOp τ sig (Elt F)) :=
  [StableHlo.nullary main_call1_c ((constantI S_ 32 0#32) : (⟨S_, .i32⟩ : BufTy).Contents (Elt F)),
   StableHlo.unary main_call1_c main_call1_v0 ((broadcastInDim S1024 ![] bcast_S_S1024) : (⟨S_, .i32⟩ : BufTy).Contents (Elt F) → (⟨S1024, .i32⟩ : BufTy).Contents (Elt F)),
   StableHlo.binary main_v15 main_call1_v0 main_call1_v1 ((cmpi .slt) : (⟨S1024, .i32⟩ : BufTy).Contents (Elt F) → (⟨S1024, .i32⟩ : BufTy).Contents (Elt F) → (⟨S1024, .i1⟩ : BufTy).Contents (Elt F)),
   StableHlo.nullary main_call1_c_0 ((constantI S_ 32 1000#32) : (⟨S_, .i32⟩ : BufTy).Contents (Elt F)),
   StableHlo.unary main_call1_c_0 main_call1_v2 ((broadcastInDim S1024 ![] bcast_S_S1024) : (⟨S_, .i32⟩ : BufTy).Contents (Elt F) → (⟨S1024, .i32⟩ : BufTy).Contents (Elt F)),
   StableHlo.binary main_v15 main_call1_v2 main_call1_v3 (addi : (⟨S1024, .i32⟩ : BufTy).Contents (Elt F) → (⟨S1024, .i32⟩ : BufTy).Contents (Elt F) → (⟨S1024, .i32⟩ : BufTy).Contents (Elt F)),
   StableHlo.ternary main_call1_v1 main_call1_v3 main_v15 main_call1_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.unary main_call1_v4 main_call1_v5 ((broadcastInDim S1024x1 ![0] bcast_S1024_S1024x1_0) : (⟨S1024, .i32⟩ : BufTy).Contents (Elt F) → (⟨S1024x1, .i32⟩ : BufTy).Contents (Elt F)),
   StableHlo.nullary main_call1_c_1 ((constantI S1 32 999#32) : (⟨S1, .i32⟩ : BufTy).Contents (Elt F)),
   StableHlo.nullary main_call1_c_2 ((constantI S_ 32 0#32) : (⟨S_, .i32⟩ : BufTy).Contents (Elt F)),
   StableHlo.unary main_call1_c_2 main_call1_v6 ((broadcastInDim S1024x1 ![] bcast_S_S1024x1) : (⟨S_, .i32⟩ : BufTy).Contents (Elt F) → (⟨S1024x1, .i32⟩ : BufTy).Contents (Elt F)),
   StableHlo.binary main_call1_v5 main_call1_v6 main_call1_v7 ((cmpi .sge) : (⟨S1024x1, .i32⟩ : BufTy).Contents (Elt F) → (⟨S1024x1, .i32⟩ : BufTy).Contents (Elt F) → (⟨S1024x1, .i1⟩ : BufTy).Contents (Elt F)),
   StableHlo.unary main_call1_c_1 main_call1_v8 ((broadcastInDim S1x1 ![1] bcast_S1_S1x1_1) : (⟨S1, .i32⟩ : BufTy).Contents (Elt F) → (⟨S1x1, .i32⟩ : BufTy).Contents (Elt F)),
   StableHlo.unary main_call1_v8 main_call1_v9 ((broadcastInDim S1024x1 ![0, 1] bcast_S1x1_S1024x1_0_1) : (⟨S1x1, .i32⟩ : BufTy).Contents (Elt F) → (⟨S1024x1, .i32⟩ : BufTy).Contents (Elt F)),
   StableHlo.binary main_call1_v5 main_call1_v9 main_call1_v10 ((cmpi .sle) : (⟨S1024x1, .i32⟩ : BufTy).Contents (Elt F) → (⟨S1024x1, .i32⟩ : BufTy).Contents (Elt F) → (⟨S1024x1, .i1⟩ : BufTy).Contents (Elt F)),
   StableHlo.binary main_call1_v7 main_call1_v10 main_call1_v11 (andi : (⟨S1024x1, .i1⟩ : BufTy).Contents (Elt F) → (⟨S1024x1, .i1⟩ : BufTy).Contents (Elt F) → (⟨S1024x1, .i1⟩ : BufTy).Contents (Elt F)),
   StableHlo.nullary main_call1_c_3 ((constantI S_ 1 1#1) : (⟨S_, .i1⟩ : BufTy).Contents (Elt F)),
   StableHlo.binary main_call1_v11 main_call1_c_3 main_call1_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
   StableHlo.binary main_arg4 main_call1_v5 main_call1_v13 ((fun x i => Host.gather gather_S1000x1000_S1024x1_S1024x1000_1_0_n_n_0_1_11000 x i) : (⟨S1000x1000, .f32⟩ : BufTy).Contents (Elt F) → (⟨S1024x1, .i32⟩ : BufTy).Contents (Elt F) → (⟨S1024x1000, .f32⟩ : BufTy).Contents (Elt F)),
   StableHlo.unary main_call1_v12 main_call1_v14 ((broadcastInDim S1024x1000 ![0] bcast_S1024_S1024x1000_0) : (⟨S1024, .i1⟩ : BufTy).Contents (Elt F) → (⟨S1024x1000, .i1⟩ : BufTy).Contents (Elt F)),
   StableHlo.nullary main_call1_cst ((constant S_ .f32 0x7FC00000#32) : (⟨S_, .f32⟩ : BufTy).Contents (Elt F)),
   StableHlo.unary main_call1_cst main_call1_v15 ((broadcastInDim S1024x1000 ![] bcast_S_S1024x1000) : (⟨S_, .f32⟩ : BufTy).Contents (Elt F) → (⟨S1024x1000, .f32⟩ : BufTy).Contents (Elt F)),
   StableHlo.ternary main_call1_v14 main_call1_v13 main_call1_v15 main_v16 (select : (⟨S1024x1000, .i1⟩ : BufTy).Contents (Elt F) → (⟨S1024x1000, .f32⟩ : BufTy).Contents (Elt F) → (⟨S1024x1000, .f32⟩ : BufTy).Contents (Elt F) → (⟨S1024x1000, .f32⟩ : BufTy).Contents (Elt F))]

/-- Operations that compute the top-64 filter, first source. -/
def keepA : List (HloOp τ sig (Elt F)) :=
  [StableHlo.nullary main_cst_2 ((constant S_ .f32 0x3F800000#32) : (⟨S_, .f32⟩ : BufTy).Contents (Elt F)),
   StableHlo.unary main_cst_2 main_v17 (broadcastInDim S1024x1000 ![] bcast_S_S1024x1000 : (⟨S_, .f32⟩ : BufTy).Contents (Elt F) → (⟨S1024x1000, .f32⟩ : BufTy).Contents (Elt F)),
   StableHlo.binary main_v16 main_v17 main_v18 (Host.divf : (⟨S1024x1000, .f32⟩ : BufTy).Contents (Elt F) → (⟨S1024x1000, .f32⟩ : BufTy).Contents (Elt F) → (⟨S1024x1000, .f32⟩ : BufTy).Contents (Elt F)),
   StableHlo.unary main_v18 main_values ((fun x => (Host.topK S1024x64 1 (FloatOps.cmpfTotal .gt) x sliceFits_S1024x1000_S1024x64).1) : (⟨S1024x1000, .f32⟩ : BufTy).Contents (Elt F) → (⟨S1024x64, .f32⟩ : BufTy).Contents (Elt F)),
   StableHlo.unary main_v18 main_indices ((fun x => (Host.topK S1024x64 1 (FloatOps.cmpfTotal .gt) x sliceFits_S1024x1000_S1024x64).2) : (⟨S1024x1000, .f32⟩ : BufTy).Contents (Elt F) → (⟨S1024x64, .i32⟩ : BufTy).Contents (Elt F)),
   StableHlo.unary main_values main_v19 ((extractStridedSlice S1024x1 ![0, 63] · slices_S1024x64_S1024x1_0_63) : (⟨S1024x64, .f32⟩ : BufTy).Contents (Elt F) → (⟨S1024x1, .f32⟩ : BufTy).Contents (Elt F)),
   StableHlo.unary main_v19 main_v20 (broadcastInDim S1024x1000 ![0, 1] bcast_S1024x1_S1024x1000_0_1 : (⟨S1024x1, .f32⟩ : BufTy).Contents (Elt F) → (⟨S1024x1000, .f32⟩ : BufTy).Contents (Elt F)),
   StableHlo.binary main_v18 main_v20 main_v21 (cmpf .oge : (⟨S1024x1000, .f32⟩ : BufTy).Contents (Elt F) → (⟨S1024x1000, .f32⟩ : BufTy).Contents (Elt F) → (⟨S1024x1000, .i1⟩ : BufTy).Contents (Elt F)),
   StableHlo.nullary main_cst_3 ((constant S_ .f32 0xFF800000#32) : (⟨S_, .f32⟩ : BufTy).Contents (Elt F)),
   StableHlo.unary main_cst_3 main_call2_v0 (id : (⟨S_, .f32⟩ : BufTy).Contents (Elt F) → (⟨S_, .f32⟩ : BufTy).Contents (Elt F)),
   StableHlo.unary main_call2_v0 main_call2_v1 ((broadcastInDim S1024x1000 ![] bcast_S_S1024x1000) : (⟨S_, .f32⟩ : BufTy).Contents (Elt F) → (⟨S1024x1000, .f32⟩ : BufTy).Contents (Elt F)),
   StableHlo.ternary main_v21 main_v18 main_call2_v1 main_v22 (select : (⟨S1024x1000, .i1⟩ : BufTy).Contents (Elt F) → (⟨S1024x1000, .f32⟩ : BufTy).Contents (Elt F) → (⟨S1024x1000, .f32⟩ : BufTy).Contents (Elt F) → (⟨S1024x1000, .f32⟩ : BufTy).Contents (Elt F))]

/-- Operations that compute the Gumbel scores, first source. -/
def scoreA : List (HloOp τ sig (Elt F)) :=
  [StableHlo.nullary main_cst_4 ((constant S_ .f32 0x3089705F#32) : (⟨S_, .f32⟩ : BufTy).Contents (Elt F)),
   StableHlo.unary main_cst_4 main_v23 (broadcastInDim S32x1024x1000 ![] bcast_S_S32x1024x1000 : (⟨S_, .f32⟩ : BufTy).Contents (Elt F) → (⟨S32x1024x1000, .f32⟩ : BufTy).Contents (Elt F)),
   StableHlo.binary main_arg1 main_v23 main_v24 (addf : (⟨S32x1024x1000, .f32⟩ : BufTy).Contents (Elt F) → (⟨S32x1024x1000, .f32⟩ : BufTy).Contents (Elt F) → (⟨S32x1024x1000, .f32⟩ : BufTy).Contents (Elt F)),
   StableHlo.unary main_v24 main_v25 (Host.log : (⟨S32x1024x1000, .f32⟩ : BufTy).Contents (Elt F) → (⟨S32x1024x1000, .f32⟩ : BufTy).Contents (Elt F)),
   StableHlo.unary main_v25 main_v26 (Host.negf : (⟨S32x1024x1000, .f32⟩ : BufTy).Contents (Elt F) → (⟨S32x1024x1000, .f32⟩ : BufTy).Contents (Elt F)),
   StableHlo.nullary main_cst_5 ((constant S_ .f32 0x3089705F#32) : (⟨S_, .f32⟩ : BufTy).Contents (Elt F)),
   StableHlo.unary main_cst_5 main_v27 (broadcastInDim S32x1024x1000 ![] bcast_S_S32x1024x1000 : (⟨S_, .f32⟩ : BufTy).Contents (Elt F) → (⟨S32x1024x1000, .f32⟩ : BufTy).Contents (Elt F)),
   StableHlo.binary main_v26 main_v27 main_v28 (addf : (⟨S32x1024x1000, .f32⟩ : BufTy).Contents (Elt F) → (⟨S32x1024x1000, .f32⟩ : BufTy).Contents (Elt F) → (⟨S32x1024x1000, .f32⟩ : BufTy).Contents (Elt F)),
   StableHlo.unary main_v28 main_v29 (Host.log : (⟨S32x1024x1000, .f32⟩ : BufTy).Contents (Elt F) → (⟨S32x1024x1000, .f32⟩ : BufTy).Contents (Elt F)),
   StableHlo.unary main_v29 main_v30 (Host.negf : (⟨S32x1024x1000, .f32⟩ : BufTy).Contents (Elt F) → (⟨S32x1024x1000, .f32⟩ : BufTy).Contents (Elt F)),
   StableHlo.unary main_v22 main_v31 (broadcastInDim S1x1024x1000 ![1, 2] bcast_S1024x1000_S1x1024x1000_1_2 : (⟨S1024x1000, .f32⟩ : BufTy).Contents (Elt F) → (⟨S1x1024x1000, .f32⟩ : BufTy).Contents (Elt F)),
   StableHlo.unary main_v31 main_v32 (broadcastInDim S32x1024x1000 ![0, 1, 2] bcast_S1x1024x1000_S32x1024x1000_0_1_2 : (⟨S1x1024x1000, .f32⟩ : BufTy).Contents (Elt F) → (⟨S32x1024x1000, .f32⟩ : BufTy).Contents (Elt F)),
   StableHlo.binary main_v32 main_v30 main_v33 (addf : (⟨S32x1024x1000, .f32⟩ : BufTy).Contents (Elt F) → (⟨S32x1024x1000, .f32⟩ : BufTy).Contents (Elt F) → (⟨S32x1024x1000, .f32⟩ : BufTy).Contents (Elt F))]

/-- Operations that compute the drawn tokens, first source. -/
def drawA : List (HloOp τ sig (Elt F)) :=
  [StableHlo.nullary main_call3_v0 ((iotaInDim S32x1024x1000 32 2) : (⟨S32x1024x1000, .i32⟩ : BufTy).Contents (Elt F)),
   StableHlo.nullary main_call3_cst ((constant S_ .f32 0xFF800000#32) : (⟨S_, .f32⟩ : BufTy).Contents (Elt F)),
   StableHlo.nullary main_call3_c ((constantI S_ 32 0#32) : (⟨S_, .i32⟩ : BufTy).Contents (Elt F)),
   StableHlo.quaternary main_v33 main_call3_v0 main_call3_cst main_call3_c main_call3_v1_0 ((fun x y u v j => (Host.argReduce reducer_argmax_f32_i32 x y u v reducesTo_S32x1024x1000_S32x1024_d2 h_S_ j).1) : (⟨S32x1024x1000, .f32⟩ : BufTy).Contents (Elt F) → (⟨S32x1024x1000, .i32⟩ : BufTy).Contents (Elt F) → (⟨S_, .f32⟩ : BufTy).Contents (Elt F) → (⟨S_, .i32⟩ : BufTy).Contents (Elt F) → (⟨S32x1024, .f32⟩ : BufTy).Contents (Elt F)),
   StableHlo.quaternary main_v33 main_call3_v0 main_call3_cst main_call3_c main_v34 ((fun x y u v j => (Host.argReduce reducer_argmax_f32_i32 x y u v reducesTo_S32x1024x1000_S32x1024_d2 h_S_ j).2) : (⟨S32x1024x1000, .f32⟩ : BufTy).Contents (Elt F) → (⟨S32x1024x1000, .i32⟩ : BufTy).Contents (Elt F) → (⟨S_, .f32⟩ : BufTy).Contents (Elt F) → (⟨S_, .i32⟩ : BufTy).Contents (Elt F) → (⟨S32x1024, .i32⟩ : BufTy).Contents (Elt F))]

/-- Operations that compute the prior rows of the codes, second source. -/
def takeB : List (HloOp τ sig (Elt F)) :=
  [StableHlo.nullary main_call4_c ((constantI S_ 32 0#32) : (⟨S_, .i32⟩ : BufTy).Contents (Elt F)),
   StableHlo.unary main_call4_c main_call4_v0 ((broadcastInDim S1024 ![] bcast_S_S1024) : (⟨S_, .i32⟩ : BufTy).Contents (Elt F) → (⟨S1024, .i32⟩ : BufTy).Contents (Elt F)),
   StableHlo.binary main_v15 main_call4_v0 main_call4_v1 ((cmpi .slt) : (⟨S1024, .i32⟩ : BufTy).Contents (Elt F) → (⟨S1024, .i32⟩ : BufTy).Contents (Elt F) → (⟨S1024, .i1⟩ : BufTy).Contents (Elt F)),
   StableHlo.nullary main_call4_c_0 ((constantI S_ 32 1000#32) : (⟨S_, .i32⟩ : BufTy).Contents (Elt F)),
   StableHlo.unary main_call4_c_0 main_call4_v2 ((broadcastInDim S1024 ![] bcast_S_S1024) : (⟨S_, .i32⟩ : BufTy).Contents (Elt F) → (⟨S1024, .i32⟩ : BufTy).Contents (Elt F)),
   StableHlo.binary main_v15 main_call4_v2 main_call4_v3 (addi : (⟨S1024, .i32⟩ : BufTy).Contents (Elt F) → (⟨S1024, .i32⟩ : BufTy).Contents (Elt F) → (⟨S1024, .i32⟩ : BufTy).Contents (Elt F)),
   StableHlo.ternary main_call4_v1 main_call4_v3 main_v15 main_call4_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.unary main_call4_v4 main_call4_v5 ((broadcastInDim S1024x1 ![0] bcast_S1024_S1024x1_0) : (⟨S1024, .i32⟩ : BufTy).Contents (Elt F) → (⟨S1024x1, .i32⟩ : BufTy).Contents (Elt F)),
   StableHlo.nullary main_call4_c_1 ((constantI S1 32 999#32) : (⟨S1, .i32⟩ : BufTy).Contents (Elt F)),
   StableHlo.nullary main_call4_c_2 ((constantI S_ 32 0#32) : (⟨S_, .i32⟩ : BufTy).Contents (Elt F)),
   StableHlo.unary main_call4_c_2 main_call4_v6 ((broadcastInDim S1024x1 ![] bcast_S_S1024x1) : (⟨S_, .i32⟩ : BufTy).Contents (Elt F) → (⟨S1024x1, .i32⟩ : BufTy).Contents (Elt F)),
   StableHlo.binary main_call4_v5 main_call4_v6 main_call4_v7 ((cmpi .sge) : (⟨S1024x1, .i32⟩ : BufTy).Contents (Elt F) → (⟨S1024x1, .i32⟩ : BufTy).Contents (Elt F) → (⟨S1024x1, .i1⟩ : BufTy).Contents (Elt F)),
   StableHlo.unary main_call4_c_1 main_call4_v8 ((broadcastInDim S1x1 ![1] bcast_S1_S1x1_1) : (⟨S1, .i32⟩ : BufTy).Contents (Elt F) → (⟨S1x1, .i32⟩ : BufTy).Contents (Elt F)),
   StableHlo.unary main_call4_v8 main_call4_v9 ((broadcastInDim S1024x1 ![0, 1] bcast_S1x1_S1024x1_0_1) : (⟨S1x1, .i32⟩ : BufTy).Contents (Elt F) → (⟨S1024x1, .i32⟩ : BufTy).Contents (Elt F)),
   StableHlo.binary main_call4_v5 main_call4_v9 main_call4_v10 ((cmpi .sle) : (⟨S1024x1, .i32⟩ : BufTy).Contents (Elt F) → (⟨S1024x1, .i32⟩ : BufTy).Contents (Elt F) → (⟨S1024x1, .i1⟩ : BufTy).Contents (Elt F)),
   StableHlo.binary main_call4_v7 main_call4_v10 main_call4_v11 (andi : (⟨S1024x1, .i1⟩ : BufTy).Contents (Elt F) → (⟨S1024x1, .i1⟩ : BufTy).Contents (Elt F) → (⟨S1024x1, .i1⟩ : BufTy).Contents (Elt F)),
   StableHlo.nullary main_call4_c_3 ((constantI S_ 1 1#1) : (⟨S_, .i1⟩ : BufTy).Contents (Elt F)),
   StableHlo.binary main_call4_v11 main_call4_c_3 main_call4_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
   StableHlo.binary main_arg5 main_call4_v5 main_call4_v13 ((fun x i => Host.gather gather_S1000x1000_S1024x1_S1024x1000_1_0_n_n_0_1_11000 x i) : (⟨S1000x1000, .f32⟩ : BufTy).Contents (Elt F) → (⟨S1024x1, .i32⟩ : BufTy).Contents (Elt F) → (⟨S1024x1000, .f32⟩ : BufTy).Contents (Elt F)),
   StableHlo.unary main_call4_v12 main_call4_v14 ((broadcastInDim S1024x1000 ![0] bcast_S1024_S1024x1000_0) : (⟨S1024, .i1⟩ : BufTy).Contents (Elt F) → (⟨S1024x1000, .i1⟩ : BufTy).Contents (Elt F)),
   StableHlo.nullary main_call4_cst ((constant S_ .f32 0x7FC00000#32) : (⟨S_, .f32⟩ : BufTy).Contents (Elt F)),
   StableHlo.unary main_call4_cst main_call4_v15 ((broadcastInDim S1024x1000 ![] bcast_S_S1024x1000) : (⟨S_, .f32⟩ : BufTy).Contents (Elt F) → (⟨S1024x1000, .f32⟩ : BufTy).Contents (Elt F)),
   StableHlo.ternary main_call4_v14 main_call4_v13 main_call4_v15 main_v35 (select : (⟨S1024x1000, .i1⟩ : BufTy).Contents (Elt F) → (⟨S1024x1000, .f32⟩ : BufTy).Contents (Elt F) → (⟨S1024x1000, .f32⟩ : BufTy).Contents (Elt F) → (⟨S1024x1000, .f32⟩ : BufTy).Contents (Elt F))]

/-- Operations that compute the top-64 filter, second source. -/
def keepB : List (HloOp τ sig (Elt F)) :=
  [StableHlo.nullary main_cst_6 ((constant S_ .f32 0x3F800000#32) : (⟨S_, .f32⟩ : BufTy).Contents (Elt F)),
   StableHlo.unary main_cst_6 main_v36 (broadcastInDim S1024x1000 ![] bcast_S_S1024x1000 : (⟨S_, .f32⟩ : BufTy).Contents (Elt F) → (⟨S1024x1000, .f32⟩ : BufTy).Contents (Elt F)),
   StableHlo.binary main_v35 main_v36 main_v37 (Host.divf : (⟨S1024x1000, .f32⟩ : BufTy).Contents (Elt F) → (⟨S1024x1000, .f32⟩ : BufTy).Contents (Elt F) → (⟨S1024x1000, .f32⟩ : BufTy).Contents (Elt F)),
   StableHlo.unary main_v37 main_values_7 ((fun x => (Host.topK S1024x64 1 (FloatOps.cmpfTotal .gt) x sliceFits_S1024x1000_S1024x64).1) : (⟨S1024x1000, .f32⟩ : BufTy).Contents (Elt F) → (⟨S1024x64, .f32⟩ : BufTy).Contents (Elt F)),
   StableHlo.unary main_v37 main_indices_8 ((fun x => (Host.topK S1024x64 1 (FloatOps.cmpfTotal .gt) x sliceFits_S1024x1000_S1024x64).2) : (⟨S1024x1000, .f32⟩ : BufTy).Contents (Elt F) → (⟨S1024x64, .i32⟩ : BufTy).Contents (Elt F)),
   StableHlo.unary main_values_7 main_v38 ((extractStridedSlice S1024x1 ![0, 63] · slices_S1024x64_S1024x1_0_63) : (⟨S1024x64, .f32⟩ : BufTy).Contents (Elt F) → (⟨S1024x1, .f32⟩ : BufTy).Contents (Elt F)),
   StableHlo.unary main_v38 main_v39 (broadcastInDim S1024x1000 ![0, 1] bcast_S1024x1_S1024x1000_0_1 : (⟨S1024x1, .f32⟩ : BufTy).Contents (Elt F) → (⟨S1024x1000, .f32⟩ : BufTy).Contents (Elt F)),
   StableHlo.binary main_v37 main_v39 main_v40 (cmpf .oge : (⟨S1024x1000, .f32⟩ : BufTy).Contents (Elt F) → (⟨S1024x1000, .f32⟩ : BufTy).Contents (Elt F) → (⟨S1024x1000, .i1⟩ : BufTy).Contents (Elt F)),
   StableHlo.nullary main_cst_9 ((constant S_ .f32 0xFF800000#32) : (⟨S_, .f32⟩ : BufTy).Contents (Elt F)),
   StableHlo.unary main_cst_9 main_call5_v0 (id : (⟨S_, .f32⟩ : BufTy).Contents (Elt F) → (⟨S_, .f32⟩ : BufTy).Contents (Elt F)),
   StableHlo.unary main_call5_v0 main_call5_v1 ((broadcastInDim S1024x1000 ![] bcast_S_S1024x1000) : (⟨S_, .f32⟩ : BufTy).Contents (Elt F) → (⟨S1024x1000, .f32⟩ : BufTy).Contents (Elt F)),
   StableHlo.ternary main_v40 main_v37 main_call5_v1 main_v41 (select : (⟨S1024x1000, .i1⟩ : BufTy).Contents (Elt F) → (⟨S1024x1000, .f32⟩ : BufTy).Contents (Elt F) → (⟨S1024x1000, .f32⟩ : BufTy).Contents (Elt F) → (⟨S1024x1000, .f32⟩ : BufTy).Contents (Elt F))]

/-- Operations that compute the Gumbel noise of the second source, begun. -/
def scoreB : List (HloOp τ sig (Elt F)) :=
  [StableHlo.nullary main_cst_10 ((constant S_ .f32 0x3089705F#32) : (⟨S_, .f32⟩ : BufTy).Contents (Elt F)),
   StableHlo.unary main_cst_10 main_v42 (broadcastInDim S32x1024x1000 ![] bcast_S_S32x1024x1000 : (⟨S_, .f32⟩ : BufTy).Contents (Elt F) → (⟨S32x1024x1000, .f32⟩ : BufTy).Contents (Elt F)),
   StableHlo.binary main_arg2 main_v42 main_v43 (addf : (⟨S32x1024x1000, .f32⟩ : BufTy).Contents (Elt F) → (⟨S32x1024x1000, .f32⟩ : BufTy).Contents (Elt F) → (⟨S32x1024x1000, .f32⟩ : BufTy).Contents (Elt F)),
   StableHlo.unary main_v43 main_v44 (Host.log : (⟨S32x1024x1000, .f32⟩ : BufTy).Contents (Elt F) → (⟨S32x1024x1000, .f32⟩ : BufTy).Contents (Elt F)),
   StableHlo.unary main_v44 main_v45 (Host.negf : (⟨S32x1024x1000, .f32⟩ : BufTy).Contents (Elt F) → (⟨S32x1024x1000, .f32⟩ : BufTy).Contents (Elt F))]

/-- Operations that compute the Gumbel scores of the second source, finished. -/
def scoreB2 : List (HloOp τ sig (Elt F)) :=
  [StableHlo.nullary main_cst_11 ((constant S_ .f32 0x3089705F#32) : (⟨S_, .f32⟩ : BufTy).Contents (Elt F)),
   StableHlo.unary main_cst_11 main_v46 (broadcastInDim S32x1024x1000 ![] bcast_S_S32x1024x1000 : (⟨S_, .f32⟩ : BufTy).Contents (Elt F) → (⟨S32x1024x1000, .f32⟩ : BufTy).Contents (Elt F)),
   StableHlo.binary main_v45 main_v46 main_v47 (addf : (⟨S32x1024x1000, .f32⟩ : BufTy).Contents (Elt F) → (⟨S32x1024x1000, .f32⟩ : BufTy).Contents (Elt F) → (⟨S32x1024x1000, .f32⟩ : BufTy).Contents (Elt F)),
   StableHlo.unary main_v47 main_v48 (Host.log : (⟨S32x1024x1000, .f32⟩ : BufTy).Contents (Elt F) → (⟨S32x1024x1000, .f32⟩ : BufTy).Contents (Elt F)),
   StableHlo.unary main_v48 main_v49 (Host.negf : (⟨S32x1024x1000, .f32⟩ : BufTy).Contents (Elt F) → (⟨S32x1024x1000, .f32⟩ : BufTy).Contents (Elt F)),
   StableHlo.unary main_v41 main_v50 (broadcastInDim S1x1024x1000 ![1, 2] bcast_S1024x1000_S1x1024x1000_1_2 : (⟨S1024x1000, .f32⟩ : BufTy).Contents (Elt F) → (⟨S1x1024x1000, .f32⟩ : BufTy).Contents (Elt F)),
   StableHlo.unary main_v50 main_v51 (broadcastInDim S32x1024x1000 ![0, 1, 2] bcast_S1x1024x1000_S32x1024x1000_0_1_2 : (⟨S1x1024x1000, .f32⟩ : BufTy).Contents (Elt F) → (⟨S32x1024x1000, .f32⟩ : BufTy).Contents (Elt F)),
   StableHlo.binary main_v51 main_v49 main_v52 (addf : (⟨S32x1024x1000, .f32⟩ : BufTy).Contents (Elt F) → (⟨S32x1024x1000, .f32⟩ : BufTy).Contents (Elt F) → (⟨S32x1024x1000, .f32⟩ : BufTy).Contents (Elt F))]

/-- Operations that compute the drawn tokens, second source. -/
def drawB : List (HloOp τ sig (Elt F)) :=
  [StableHlo.nullary main_call6_v0 ((iotaInDim S32x1024x1000 32 2) : (⟨S32x1024x1000, .i32⟩ : BufTy).Contents (Elt F)),
   StableHlo.nullary main_call6_cst ((constant S_ .f32 0xFF800000#32) : (⟨S_, .f32⟩ : BufTy).Contents (Elt F)),
   StableHlo.nullary main_call6_c ((constantI S_ 32 0#32) : (⟨S_, .i32⟩ : BufTy).Contents (Elt F)),
   StableHlo.quaternary main_v52 main_call6_v0 main_call6_cst main_call6_c main_call6_v1_0 ((fun x y u v j => (Host.argReduce reducer_argmax_f32_i32 x y u v reducesTo_S32x1024x1000_S32x1024_d2 h_S_ j).1) : (⟨S32x1024x1000, .f32⟩ : BufTy).Contents (Elt F) → (⟨S32x1024x1000, .i32⟩ : BufTy).Contents (Elt F) → (⟨S_, .f32⟩ : BufTy).Contents (Elt F) → (⟨S_, .i32⟩ : BufTy).Contents (Elt F) → (⟨S32x1024, .f32⟩ : BufTy).Contents (Elt F)),
   StableHlo.quaternary main_v52 main_call6_v0 main_call6_cst main_call6_c main_v53 ((fun x y u v j => (Host.argReduce reducer_argmax_f32_i32 x y u v reducesTo_S32x1024x1000_S32x1024_d2 h_S_ j).2) : (⟨S32x1024x1000, .f32⟩ : BufTy).Contents (Elt F) → (⟨S32x1024x1000, .i32⟩ : BufTy).Contents (Elt F) → (⟨S_, .f32⟩ : BufTy).Contents (Elt F) → (⟨S_, .i32⟩ : BufTy).Contents (Elt F) → (⟨S32x1024, .i32⟩ : BufTy).Contents (Elt F))]

/-- Operations that compute the candidates' waveforms, first source. -/
def rowsA : List (HloOp τ sig (Elt F)) :=
  [StableHlo.nullary main_call7_c ((constantI S_ 32 0#32) : (⟨S_, .i32⟩ : BufTy).Contents (Elt F)),
   StableHlo.unary main_call7_c main_call7_v0 ((broadcastInDim S32x1024 ![] bcast_S_S32x1024) : (⟨S_, .i32⟩ : BufTy).Contents (Elt F) → (⟨S32x1024, .i32⟩ : BufTy).Contents (Elt F)),
   StableHlo.binary main_v34 main_call7_v0 main_call7_v1 ((cmpi .slt) : (⟨S32x1024, .i32⟩ : BufTy).Contents (Elt F) → (⟨S32x1024, .i32⟩ : BufTy).Contents (Elt F) → (⟨S32x1024, .i1⟩ : BufTy).Contents (Elt F)),
   StableHlo.nullary main_call7_c_0 ((constantI S_ 32 1000#32) : (⟨S_, .i32⟩ : BufTy).Contents (Elt F)),
   StableHlo.unary main_call7_c_0 main_call7_v2 ((broadcastInDim S32x1024 ![] bcast_S_S32x1024) : (⟨S_, .i32⟩ : BufTy).Contents (Elt F) → (⟨S32x1024, .i32⟩ : BufTy).Contents (Elt F)),
   StableHlo.binary main_v34 main_call7_v2 main_call7_v3 (addi : (⟨S32x1024, .i32⟩ : BufTy).Contents (Elt F) → (⟨S32x1024, .i32⟩ : BufTy).Contents (Elt F) → (⟨S32x1024, .i32⟩ : BufTy).Contents (Elt F)),
   StableHlo.ternary main_call7_v1 main_call7_v3 main_v34 main_call7_v4 (select : (⟨S32x1024, .i1⟩ : BufTy).Contents (Elt F) → (⟨S32x1024, .i32⟩ : BufTy).Contents (Elt F) → (⟨S32x1024, .i32⟩ : BufTy).Contents (Elt F) → (⟨S32x1024, .i32⟩ : BufTy).Contents (Elt F)),
   StableHlo.unary main_call7_v4 main_call7_v5 ((broadcastInDim S32x1024x1 ![0, 1] bcast_S32x1024_S32x1024x1_0_1) : (⟨S32x1024, .i32⟩ : BufTy).Contents (Elt F) → (⟨S32x1024x1, .i32⟩ : BufTy).Contents (Elt F)),
   StableHlo.nullary main_call7_c_1 ((constantI S1 32 999#32) : (⟨S1, .i32⟩ : BufTy).Contents (Elt F)),
   StableHlo.nullary main_call7_c_2 ((constantI S_ 32 0#32) : (⟨S_, .i32⟩ : BufTy).Contents (Elt F)),
   StableHlo.unary main_call7_c_2 main_call7_v6 ((broadcastInDim S32x1024x1 ![] bcast_S_S32x1024x1) : (⟨S_, .i32⟩ : BufTy).Contents (Elt F) → (⟨S32x1024x1, .i32⟩ : BufTy).Contents (Elt F)),
   StableHlo.binary main_call7_v5 main_call7_v6 main_call7_v7 ((cmpi .sge) : (⟨S32x1024x1, .i32⟩ : BufTy).Contents (Elt F) → (⟨S32x1024x1, .i32⟩ : BufTy).Contents (Elt F) → (⟨S32x1024x1, .i1⟩ : BufTy).Contents (Elt F)),
   StableHlo.unary main_call7_c_1 main_call7_v8 ((broadcastInDim S1x1x1 ![2] bcast_S1_S1x1x1_2) : (⟨S1, .i32⟩ : BufTy).Contents (Elt F) → (⟨S1x1x1, .i32⟩ : BufTy).Contents (Elt F)),
   StableHlo.unary main_call7_v8 main_call7_v9 ((broadcastInDim S32x1024x1 ![0, 1, 2] bcast_S1x1x1_S32x1024x1_0_1_2) : (⟨S1x1x1, .i32⟩ : BufTy).Contents (Elt F) → (⟨S32x1024x1, .i32⟩ : BufTy).Contents (Elt F)),
   StableHlo.binary main_call7_v5 main_call7_v9 main_call7_v10 ((cmpi .sle) : (⟨S32x1024x1, .i32⟩ : BufTy).Contents (Elt F) → (⟨S32x1024x1, .i32⟩ : BufTy).Contents (Elt F) → (⟨S32x1024x1, .i1⟩ : BufTy).Contents (Elt F)),
   StableHlo.binary main_call7_v7 main_call7_v10 main_call7_v11 (andi : (⟨S32x1024x1, .i1⟩ : BufTy).Contents (Elt F) → (⟨S32x1024x1, .i1⟩ : BufTy).Contents (Elt F) → (⟨S32x1024x1, .i1⟩ : BufTy).Contents (Elt F)),
   StableHlo.nullary main_call7_c_3 ((constantI S_ 1 1#1) : (⟨S_, .i1⟩ : BufTy).Contents (Elt F)),
   StableHlo.binary main_call7_v11 main_call7_c_3 main_call7_v12 ((fun x v => Host.reduce IntOp.andi x v reducesTo_S32x1024x1_S32x1024_d2 h_S_) : (⟨S32x1024x1, .i1⟩ : BufTy).Contents (Elt F) → (⟨S_, .i1⟩ : BufTy).Contents (Elt F) → (⟨S32x1024, .i1⟩ : BufTy).Contents (Elt F)),
   StableHlo.binary main_arg3 main_call7_v5 main_call7_v13 ((fun x i => Host.gather gather_S1000x64_S32x1024x1_S32x1024x64_2_0_n_n_0_2_164 x i) : (⟨S1000x64, .f32⟩ : BufTy).Contents (Elt F) → (⟨S32x1024x1, .i32⟩ : BufTy).Contents (Elt F) → (⟨S32x1024x64, .f32⟩ : BufTy).Contents (Elt F)),
   StableHlo.unary main_call7_v12 main_call7_v14 ((broadcastInDim S32x1024x64 ![0, 1] bcast_S32x1024_S32x1024x64_0_1) : (⟨S32x1024, .i1⟩ : BufTy).Contents (Elt F) → (⟨S32x1024x64, .i1⟩ : BufTy).Contents (Elt F)),
   StableHlo.nullary main_call7_cst ((constant S_ .f32 0x7FC00000#32) : (⟨S_, .f32⟩ : BufTy).Contents (Elt F)),
   StableHlo.unary main_call7_cst main_call7_v15 ((broadcastInDim S32x1024x64 ![] bcast_S_S32x1024x64) : (⟨S_, .f32⟩ : BufTy).Contents (Elt F) → (⟨S32x1024x64, .f32⟩ : BufTy).Contents (Elt F)),
   StableHlo.ternary main_call7_v14 main_call7_v13 main_call7_v15 main_v54 (select : (⟨S32x1024x64, .i1⟩ : BufTy).Contents (Elt F) → (⟨S32x1024x64, .f32⟩ : BufTy).Contents (Elt F) → (⟨S32x1024x64, .f32⟩ : BufTy).Contents (Elt F) → (⟨S32x1024x64, .f32⟩ : BufTy).Contents (Elt F)),
   StableHlo.reshape main_v54 main_v55 (rfl : (.f32 : EltTy) = .f32) shapeCasts_S32x1024x64_S32x65536]

/-- Operations that compute the candidates' waveforms, second source. -/
def rowsB : List (HloOp τ sig (Elt F)) :=
  [StableHlo.nullary main_call8_c ((constantI S_ 32 0#32) : (⟨S_, .i32⟩ : BufTy).Contents (Elt F)),
   StableHlo.unary main_call8_c main_call8_v0 ((broadcastInDim S32x1024 ![] bcast_S_S32x1024) : (⟨S_, .i32⟩ : BufTy).Contents (Elt F) → (⟨S32x1024, .i32⟩ : BufTy).Contents (Elt F)),
   StableHlo.binary main_v53 main_call8_v0 main_call8_v1 ((cmpi .slt) : (⟨S32x1024, .i32⟩ : BufTy).Contents (Elt F) → (⟨S32x1024, .i32⟩ : BufTy).Contents (Elt F) → (⟨S32x1024, .i1⟩ : BufTy).Contents (Elt F)),
   StableHlo.nullary main_call8_c_0 ((constantI S_ 32 1000#32) : (⟨S_, .i32⟩ : BufTy).Contents (Elt F)),
   StableHlo.unary main_call8_c_0 main_call8_v2 ((broadcastInDim S32x1024 ![] bcast_S_S32x1024) : (⟨S_, .i32⟩ : BufTy).Contents (Elt F) → (⟨S32x1024, .i32⟩ : BufTy).Contents (Elt F)),
   StableHlo.binary main_v53 main_call8_v2 main_call8_v3 (addi : (⟨S32x1024, .i32⟩ : BufTy).Contents (Elt F) → (⟨S32x1024, .i32⟩ : BufTy).Contents (Elt F) → (⟨S32x1024, .i32⟩ : BufTy).Contents (Elt F)),
   StableHlo.ternary main_call8_v1 main_call8_v3 main_v53 main_call8_v4 (select : (⟨S32x1024, .i1⟩ : BufTy).Contents (Elt F) → (⟨S32x1024, .i32⟩ : BufTy).Contents (Elt F) → (⟨S32x1024, .i32⟩ : BufTy).Contents (Elt F) → (⟨S32x1024, .i32⟩ : BufTy).Contents (Elt F)),
   StableHlo.unary main_call8_v4 main_call8_v5 ((broadcastInDim S32x1024x1 ![0, 1] bcast_S32x1024_S32x1024x1_0_1) : (⟨S32x1024, .i32⟩ : BufTy).Contents (Elt F) → (⟨S32x1024x1, .i32⟩ : BufTy).Contents (Elt F)),
   StableHlo.nullary main_call8_c_1 ((constantI S1 32 999#32) : (⟨S1, .i32⟩ : BufTy).Contents (Elt F)),
   StableHlo.nullary main_call8_c_2 ((constantI S_ 32 0#32) : (⟨S_, .i32⟩ : BufTy).Contents (Elt F)),
   StableHlo.unary main_call8_c_2 main_call8_v6 ((broadcastInDim S32x1024x1 ![] bcast_S_S32x1024x1) : (⟨S_, .i32⟩ : BufTy).Contents (Elt F) → (⟨S32x1024x1, .i32⟩ : BufTy).Contents (Elt F)),
   StableHlo.binary main_call8_v5 main_call8_v6 main_call8_v7 ((cmpi .sge) : (⟨S32x1024x1, .i32⟩ : BufTy).Contents (Elt F) → (⟨S32x1024x1, .i32⟩ : BufTy).Contents (Elt F) → (⟨S32x1024x1, .i1⟩ : BufTy).Contents (Elt F)),
   StableHlo.unary main_call8_c_1 main_call8_v8 ((broadcastInDim S1x1x1 ![2] bcast_S1_S1x1x1_2) : (⟨S1, .i32⟩ : BufTy).Contents (Elt F) → (⟨S1x1x1, .i32⟩ : BufTy).Contents (Elt F)),
   StableHlo.unary main_call8_v8 main_call8_v9 ((broadcastInDim S32x1024x1 ![0, 1, 2] bcast_S1x1x1_S32x1024x1_0_1_2) : (⟨S1x1x1, .i32⟩ : BufTy).Contents (Elt F) → (⟨S32x1024x1, .i32⟩ : BufTy).Contents (Elt F)),
   StableHlo.binary main_call8_v5 main_call8_v9 main_call8_v10 ((cmpi .sle) : (⟨S32x1024x1, .i32⟩ : BufTy).Contents (Elt F) → (⟨S32x1024x1, .i32⟩ : BufTy).Contents (Elt F) → (⟨S32x1024x1, .i1⟩ : BufTy).Contents (Elt F)),
   StableHlo.binary main_call8_v7 main_call8_v10 main_call8_v11 (andi : (⟨S32x1024x1, .i1⟩ : BufTy).Contents (Elt F) → (⟨S32x1024x1, .i1⟩ : BufTy).Contents (Elt F) → (⟨S32x1024x1, .i1⟩ : BufTy).Contents (Elt F)),
   StableHlo.nullary main_call8_c_3 ((constantI S_ 1 1#1) : (⟨S_, .i1⟩ : BufTy).Contents (Elt F)),
   StableHlo.binary main_call8_v11 main_call8_c_3 main_call8_v12 ((fun x v => Host.reduce IntOp.andi x v reducesTo_S32x1024x1_S32x1024_d2 h_S_) : (⟨S32x1024x1, .i1⟩ : BufTy).Contents (Elt F) → (⟨S_, .i1⟩ : BufTy).Contents (Elt F) → (⟨S32x1024, .i1⟩ : BufTy).Contents (Elt F)),
   StableHlo.binary main_arg3 main_call8_v5 main_call8_v13 ((fun x i => Host.gather gather_S1000x64_S32x1024x1_S32x1024x64_2_0_n_n_0_2_164 x i) : (⟨S1000x64, .f32⟩ : BufTy).Contents (Elt F) → (⟨S32x1024x1, .i32⟩ : BufTy).Contents (Elt F) → (⟨S32x1024x64, .f32⟩ : BufTy).Contents (Elt F)),
   StableHlo.unary main_call8_v12 main_call8_v14 ((broadcastInDim S32x1024x64 ![0, 1] bcast_S32x1024_S32x1024x64_0_1) : (⟨S32x1024, .i1⟩ : BufTy).Contents (Elt F) → (⟨S32x1024x64, .i1⟩ : BufTy).Contents (Elt F)),
   StableHlo.nullary main_call8_cst ((constant S_ .f32 0x7FC00000#32) : (⟨S_, .f32⟩ : BufTy).Contents (Elt F)),
   StableHlo.unary main_call8_cst main_call8_v15 ((broadcastInDim S32x1024x64 ![] bcast_S_S32x1024x64) : (⟨S_, .f32⟩ : BufTy).Contents (Elt F) → (⟨S32x1024x64, .f32⟩ : BufTy).Contents (Elt F)),
   StableHlo.ternary main_call8_v14 main_call8_v13 main_call8_v15 main_v56 (select : (⟨S32x1024x64, .i1⟩ : BufTy).Contents (Elt F) → (⟨S32x1024x64, .f32⟩ : BufTy).Contents (Elt F) → (⟨S32x1024x64, .f32⟩ : BufTy).Contents (Elt F) → (⟨S32x1024x64, .f32⟩ : BufTy).Contents (Elt F)),
   StableHlo.reshape main_v56 main_v57 (rfl : (.f32 : EltTy) = .f32) shapeCasts_S32x1024x64_S32x65536]

/-- Operations that compute the candidates' reconstruction errors. -/
def err : List (HloOp τ sig (Elt F)) :=
  [StableHlo.nullary main_cst_12 ((constant S_ .f32 0x3F000000#32) : (⟨S_, .f32⟩ : BufTy).Contents (Elt F)),
   StableHlo.unary main_cst_12 main_v58 (broadcastInDim S32x65536 ![] bcast_S_S32x65536 : (⟨S_, .f32⟩ : BufTy).Contents (Elt F) → (⟨S32x65536, .f32⟩ : BufTy).Contents (Elt F)),
   StableHlo.binary main_v58 main_v55 main_v59 (mulf : (⟨S32x65536, .f32⟩ : BufTy).Contents (Elt F) → (⟨S32x65536, .f32⟩ : BufTy).Contents (Elt F) → (⟨S32x65536, .f32⟩ : BufTy).Contents (Elt F)),
   StableHlo.nullary main_cst_13 ((constant S_ .f32 0x3F000000#32) : (⟨S_, .f32⟩ : BufTy).Contents (Elt F)),
   StableHlo.unary main_cst_13 main_v60 (broadcastInDim S32x65536 ![] bcast_S_S32x65536 : (⟨S_, .f32⟩ : BufTy).Contents (Elt F) → (⟨S32x65536, .f32⟩ : BufTy).Contents (Elt F)),
   StableHlo.binary main_v60 main_v57 main_v61 (mulf : (⟨S32x65536, .f32⟩ : BufTy).Contents (Elt F) → (⟨S32x65536, .f32⟩ : BufTy).Contents (Elt F) → (⟨S32x65536, .f32⟩ : BufTy).Contents (Elt F)),
   StableHlo.binary main_v59 main_v61 main_v62 (addf : (⟨S32x65536, .f32⟩ : BufTy).Contents (Elt F) → (⟨S32x65536, .f32⟩ : BufTy).Contents (Elt F) → (⟨S32x65536, .f32⟩ : BufTy).Contents (Elt F)),
   StableHlo.unary main_arg0 main_v63 (broadcastInDim S1x65536 ![1] bcast_S65536_S1x65536_1 : (⟨S65536, .f32⟩ : BufTy).Contents (Elt F) → (⟨S1x65536, .f32⟩ : BufTy).Contents (Elt F)),
   StableHlo.unary main_v63 main_v64 (broadcastInDim S32x65536 ![0, 1] bcast_S1x65536_S32x65536_0_1 : (⟨S1x65536, .f32⟩ : BufTy).Contents (Elt F) → (⟨S32x65536, .f32⟩ : BufTy).Contents (Elt F)),
   StableHlo.binary main_v62 main_v64 main_v65 (subf : (⟨S32x65536, .f32⟩ : BufTy).Contents (Elt F) → (⟨S32x65536, .f32⟩ : BufTy).Contents (Elt F) → (⟨S32x65536, .f32⟩ : BufTy).Contents (Elt F)),
   StableHlo.binary main_v65 main_v65 main_call9_v0 (mulf : (⟨S32x65536, .f32⟩ : BufTy).Contents (Elt F) → (⟨S32x65536, .f32⟩ : BufTy).Contents (Elt F) → (⟨S32x65536, .f32⟩ : BufTy).Contents (Elt F)),
   StableHlo.nullary main_call9_cst ((constant S_ .f32 0x00000000#32) : (⟨S_, .f32⟩ : BufTy).Contents (Elt F)),
   StableHlo.binary main_call9_v0 main_call9_cst main_call9_v1 ((fun x v => Host.reduceAdd x v reducesTo_S32x65536_S32_d1 h_S_) : (⟨S32x65536, .f32⟩ : BufTy).Contents (Elt F) → (⟨S_, .f32⟩ : BufTy).Contents (Elt F) → (⟨S32, .f32⟩ : BufTy).Contents (Elt F)),
   StableHlo.unary main_call9_v1 main_v66 (Host.sqrt : (⟨S32, .f32⟩ : BufTy).Contents (Elt F) → (⟨S32, .f32⟩ : BufTy).Contents (Elt F))]

/-- Operations that compute the best candidate. -/
def best : List (HloOp τ sig (Elt F)) :=
  [StableHlo.nullary main_call10_v0 ((iotaInDim S32 32 0) : (⟨S32, .i32⟩ : BufTy).Contents (Elt F)),
   StableHlo.nullary main_call10_cst ((constant S_ .f32 0x7F800000#32) : (⟨S_, .f32⟩ : BufTy).Contents (Elt F)),
   StableHlo.nullary main_call10_c ((constantI S_ 32 0#32) : (⟨S_, .i32⟩ : BufTy).Contents (Elt F)),
   StableHlo.quaternary main_v66 main_call10_v0 main_call10_cst main_call10_c main_call10_v1_0 ((fun x y u v j => (Host.argReduce reducer_argmin_f32_i32 x y u v reducesTo_S32_S_d0 h_S_ j).1) : (⟨S32, .f32⟩ : BufTy).Contents (Elt F) → (⟨S32, .i32⟩ : BufTy).Contents (Elt F) → (⟨S_, .f32⟩ : BufTy).Contents (Elt F) → (⟨S_, .i32⟩ : BufTy).Contents (Elt F) → (⟨S_, .f32⟩ : BufTy).Contents (Elt F)),
   StableHlo.quaternary main_v66 main_call10_v0 main_call10_cst main_call10_c main_v67 ((fun x y u v j => (Host.argReduce reducer_argmin_f32_i32 x y u v reducesTo_S32_S_d0 h_S_ j).2) : (⟨S32, .f32⟩ : BufTy).Contents (Elt F) → (⟨S32, .i32⟩ : BufTy).Contents (Elt F) → (⟨S_, .f32⟩ : BufTy).Contents (Elt F) → (⟨S_, .i32⟩ : BufTy).Contents (Elt F) → (⟨S_, .i32⟩ : BufTy).Contents (Elt F))]

/-- Operations that compute the best candidate's tokens, first source. -/
def pickA : List (HloOp τ sig (Elt F)) :=
  [StableHlo.nullary main_c ((constantI S_ 32 0#32) : (⟨S_, .i32⟩ : BufTy).Contents (Elt F)),
   StableHlo.binary main_v67 main_c main_v68 (cmpi .slt : (⟨S_, .i32⟩ : BufTy).Contents (Elt F) → (⟨S_, .i32⟩ : BufTy).Contents (Elt F) → (⟨S_, .i1⟩ : BufTy).Contents (Elt F)),
   StableHlo.nullary main_c_14 ((constantI S_ 32 32#32) : (⟨S_, .i32⟩ : BufTy).Contents (Elt F)),
   StableHlo.binary main_v67 main_c_14 main_v69 (addi : (⟨S_, .i32⟩ : BufTy).Contents (Elt F) → (⟨S_, .i32⟩ : BufTy).Contents (Elt F) → (⟨S_, .i32⟩ : BufTy).Contents (Elt F)),
   StableHlo.ternary main_v68 main_v69 main_v67 main_v70 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_c_15 ((constantI S_ 32 0#32) : (⟨S_, .i32⟩ : BufTy).Contents (Elt F)),
   StableHlo.nullary main_c_16 ((constantI S_ 32 0#32) : (⟨S_, .i32⟩ : BufTy).Contents (Elt F)),
   StableHlo.binary main_c_15 main_c_16 main_v71 (cmpi .slt : (⟨S_, .i32⟩ : BufTy).Contents (Elt F) → (⟨S_, .i32⟩ : BufTy).Contents (Elt F) → (⟨S_, .i1⟩ : BufTy).Contents (Elt F)),
   StableHlo.nullary main_c_17 ((constantI S_ 32 0#32) : (⟨S_, .i32⟩ : BufTy).Contents (Elt F)),
   StableHlo.nullary main_c_18 ((constantI S_ 32 1024#32) : (⟨S_, .i32⟩ : BufTy).Contents (Elt F)),
   StableHlo.binary main_c_17 main_c_18 main_v72 (addi : (⟨S_, .i32⟩ : BufTy).Contents (Elt F) → (⟨S_, .i32⟩ : BufTy).Contents (Elt F) → (⟨S_, .i32⟩ : BufTy).Contents (Elt F)),
   StableHlo.nullary main_c_19 ((constantI S_ 32 0#32) : (⟨S_, .i32⟩ : BufTy).Contents (Elt F)),
   StableHlo.ternary main_v71 main_v72 main_c_19 main_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_v34 ![main_v70, main_v73] ⟨S_, .i32⟩ main_v74 ((fun x i => Host.dynamicSlice S1x1024 x (fun k => (i k (Shape.Idx.first h_S_)).toInt) sliceFits_S32x1024_S1x1024) : (⟨S32x1024, .i32⟩ : BufTy).Contents (Elt F) → (Fin 2 → (⟨S_, .i32⟩ : BufTy).Contents (Elt F)) → (⟨S1x1024, .i32⟩ : BufTy).Contents (Elt F)),
   StableHlo.reshape main_v74 main_v75 (rfl : (.i32 : EltTy) = .i32) shapeCasts_S1x1024_S1024]

/-- Operations that compute its waveform, first source. -/
def outA : List (HloOp τ sig (Elt F)) :=
  [StableHlo.nullary main_call11_c ((constantI S_ 32 0#32) : (⟨S_, .i32⟩ : BufTy).Contents (Elt F)),
   StableHlo.unary main_call11_c main_call11_v0 ((broadcastInDim S1024 ![] bcast_S_S1024) : (⟨S_, .i32⟩ : BufTy).Contents (Elt F) → (⟨S1024, .i32⟩ : BufTy).Contents (Elt F)),
   StableHlo.binary main_v75 main_call11_v0 main_call11_v1 ((cmpi .slt) : (⟨S1024, .i32⟩ : BufTy).Contents (Elt F) → (⟨S1024, .i32⟩ : BufTy).Contents (Elt F) → (⟨S1024, .i1⟩ : BufTy).Contents (Elt F)),
   StableHlo.nullary main_call11_c_0 ((constantI S_ 32 1000#32) : (⟨S_, .i32⟩ : BufTy).Contents (Elt F)),
   StableHlo.unary main_call11_c_0 main_call11_v2 ((broadcastInDim S1024 ![] bcast_S_S1024) : (⟨S_, .i32⟩ : BufTy).Contents (Elt F) → (⟨S1024, .i32⟩ : BufTy).Contents (Elt F)),
   StableHlo.binary main_v75 main_call11_v2 main_call11_v3 (addi : (⟨S1024, .i32⟩ : BufTy).Contents (Elt F) → (⟨S1024, .i32⟩ : BufTy).Contents (Elt F) → (⟨S1024, .i32⟩ : BufTy).Contents (Elt F)),
   StableHlo.ternary main_call11_v1 main_call11_v3 main_v75 main_call11_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.unary main_call11_v4 main_call11_v5 ((broadcastInDim S1024x1 ![0] bcast_S1024_S1024x1_0) : (⟨S1024, .i32⟩ : BufTy).Contents (Elt F) → (⟨S1024x1, .i32⟩ : BufTy).Contents (Elt F)),
   StableHlo.nullary main_call11_c_1 ((constantI S1 32 999#32) : (⟨S1, .i32⟩ : BufTy).Contents (Elt F)),
   StableHlo.nullary main_call11_c_2 ((constantI S_ 32 0#32) : (⟨S_, .i32⟩ : BufTy).Contents (Elt F)),
   StableHlo.unary main_call11_c_2 main_call11_v6 ((broadcastInDim S1024x1 ![] bcast_S_S1024x1) : (⟨S_, .i32⟩ : BufTy).Contents (Elt F) → (⟨S1024x1, .i32⟩ : BufTy).Contents (Elt F)),
   StableHlo.binary main_call11_v5 main_call11_v6 main_call11_v7 ((cmpi .sge) : (⟨S1024x1, .i32⟩ : BufTy).Contents (Elt F) → (⟨S1024x1, .i32⟩ : BufTy).Contents (Elt F) → (⟨S1024x1, .i1⟩ : BufTy).Contents (Elt F)),
   StableHlo.unary main_call11_c_1 main_call11_v8 ((broadcastInDim S1x1 ![1] bcast_S1_S1x1_1) : (⟨S1, .i32⟩ : BufTy).Contents (Elt F) → (⟨S1x1, .i32⟩ : BufTy).Contents (Elt F)),
   StableHlo.unary main_call11_v8 main_call11_v9 ((broadcastInDim S1024x1 ![0, 1] bcast_S1x1_S1024x1_0_1) : (⟨S1x1, .i32⟩ : BufTy).Contents (Elt F) → (⟨S1024x1, .i32⟩ : BufTy).Contents (Elt F)),
   StableHlo.binary main_call11_v5 main_call11_v9 main_call11_v10 ((cmpi .sle) : (⟨S1024x1, .i32⟩ : BufTy).Contents (Elt F) → (⟨S1024x1, .i32⟩ : BufTy).Contents (Elt F) → (⟨S1024x1, .i1⟩ : BufTy).Contents (Elt F)),
   StableHlo.binary main_call11_v7 main_call11_v10 main_call11_v11 (andi : (⟨S1024x1, .i1⟩ : BufTy).Contents (Elt F) → (⟨S1024x1, .i1⟩ : BufTy).Contents (Elt F) → (⟨S1024x1, .i1⟩ : BufTy).Contents (Elt F)),
   StableHlo.nullary main_call11_c_3 ((constantI S_ 1 1#1) : (⟨S_, .i1⟩ : BufTy).Contents (Elt F)),
   StableHlo.binary main_call11_v11 main_call11_c_3 main_call11_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
   StableHlo.binary main_arg3 main_call11_v5 main_call11_v13 ((fun x i => Host.gather gather_S1000x64_S1024x1_S1024x64_1_0_n_n_0_1_164 x i) : (⟨S1000x64, .f32⟩ : BufTy).Contents (Elt F) → (⟨S1024x1, .i32⟩ : BufTy).Contents (Elt F) → (⟨S1024x64, .f32⟩ : BufTy).Contents (Elt F)),
   StableHlo.unary main_call11_v12 main_call11_v14 ((broadcastInDim S1024x64 ![0] bcast_S1024_S1024x64_0) : (⟨S1024, .i1⟩ : BufTy).Contents (Elt F) → (⟨S1024x64, .i1⟩ : BufTy).Contents (Elt F)),
   StableHlo.nullary main_call11_cst ((constant S_ .f32 0x7FC00000#32) : (⟨S_, .f32⟩ : BufTy).Contents (Elt F)),
   StableHlo.unary main_call11_cst main_call11_v15 ((broadcastInDim S1024x64 ![] bcast_S_S1024x64) : (⟨S_, .f32⟩ : BufTy).Contents (Elt F) → (⟨S1024x64, .f32⟩ : BufTy).Contents (Elt F)),
   StableHlo.ternary main_call11_v14 main_call11_v13 main_call11_v15 main_v76 (select : (⟨S1024x64, .i1⟩ : BufTy).Contents (Elt F) → (⟨S1024x64, .f32⟩ : BufTy).Contents (Elt F) → (⟨S1024x64, .f32⟩ : BufTy).Contents (Elt F) → (⟨S1024x64, .f32⟩ : BufTy).Contents (Elt F)),
   StableHlo.reshape main_v76 main_v77 (rfl : (.f32 : EltTy) = .f32) shapeCasts_S1024x64_S65536]

/-- Operations that compute the best candidate's tokens, second source. -/
def pickB : List (HloOp τ sig (Elt F)) :=
  [StableHlo.nullary main_c_20 ((constantI S_ 32 0#32) : (⟨S_, .i32⟩ : BufTy).Contents (Elt F)),
   StableHlo.binary main_v67 main_c_20 main_v78 (cmpi .slt : (⟨S_, .i32⟩ : BufTy).Contents (Elt F) → (⟨S_, .i32⟩ : BufTy).Contents (Elt F) → (⟨S_, .i1⟩ : BufTy).Contents (Elt F)),
   StableHlo.nullary main_c_21 ((constantI S_ 32 32#32) : (⟨S_, .i32⟩ : BufTy).Contents (Elt F)),
   StableHlo.binary main_v67 main_c_21 main_v79 (addi : (⟨S_, .i32⟩ : BufTy).Contents (Elt F) → (⟨S_, .i32⟩ : BufTy).Contents (Elt F) → (⟨S_, .i32⟩ : BufTy).Contents (Elt F)),
   StableHlo.ternary main_v78 main_v79 main_v67 main_v80 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_c_22 ((constantI S_ 32 0#32) : (⟨S_, .i32⟩ : BufTy).Contents (Elt F)),
   StableHlo.nullary main_c_23 ((constantI S_ 32 0#32) : (⟨S_, .i32⟩ : BufTy).Contents (Elt F)),
   StableHlo.binary main_c_22 main_c_23 main_v81 (cmpi .slt : (⟨S_, .i32⟩ : BufTy).Contents (Elt F) → (⟨S_, .i32⟩ : BufTy).Contents (Elt F) → (⟨S_, .i1⟩ : BufTy).Contents (Elt F)),
   StableHlo.nullary main_c_24 ((constantI S_ 32 0#32) : (⟨S_, .i32⟩ : BufTy).Contents (Elt F)),
   StableHlo.nullary main_c_25 ((constantI S_ 32 1024#32) : (⟨S_, .i32⟩ : BufTy).Contents (Elt F)),
   StableHlo.binary main_c_24 main_c_25 main_v82 (addi : (⟨S_, .i32⟩ : BufTy).Contents (Elt F) → (⟨S_, .i32⟩ : BufTy).Contents (Elt F) → (⟨S_, .i32⟩ : BufTy).Contents (Elt F)),
   StableHlo.nullary main_c_26 ((constantI S_ 32 0#32) : (⟨S_, .i32⟩ : BufTy).Contents (Elt F)),
   StableHlo.ternary main_v81 main_v82 main_c_26 main_v83 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_v53 ![main_v80, main_v83] ⟨S_, .i32⟩ main_v84 ((fun x i => Host.dynamicSlice S1x1024 x (fun k => (i k (Shape.Idx.first h_S_)).toInt) sliceFits_S32x1024_S1x1024) : (⟨S32x1024, .i32⟩ : BufTy).Contents (Elt F) → (Fin 2 → (⟨S_, .i32⟩ : BufTy).Contents (Elt F)) → (⟨S1x1024, .i32⟩ : BufTy).Contents (Elt F)),
   StableHlo.reshape main_v84 main_v85 (rfl : (.i32 : EltTy) = .i32) shapeCasts_S1x1024_S1024]

/-- Operations that compute its waveform, second source. -/
def outB : List (HloOp τ sig (Elt F)) :=
  [StableHlo.nullary main_call12_c ((constantI S_ 32 0#32) : (⟨S_, .i32⟩ : BufTy).Contents (Elt F)),
   StableHlo.unary main_call12_c main_call12_v0 ((broadcastInDim S1024 ![] bcast_S_S1024) : (⟨S_, .i32⟩ : BufTy).Contents (Elt F) → (⟨S1024, .i32⟩ : BufTy).Contents (Elt F)),
   StableHlo.binary main_v85 main_call12_v0 main_call12_v1 ((cmpi .slt) : (⟨S1024, .i32⟩ : BufTy).Contents (Elt F) → (⟨S1024, .i32⟩ : BufTy).Contents (Elt F) → (⟨S1024, .i1⟩ : BufTy).Contents (Elt F)),
   StableHlo.nullary main_call12_c_0 ((constantI S_ 32 1000#32) : (⟨S_, .i32⟩ : BufTy).Contents (Elt F)),
   StableHlo.unary main_call12_c_0 main_call12_v2 ((broadcastInDim S1024 ![] bcast_S_S1024) : (⟨S_, .i32⟩ : BufTy).Contents (Elt F) → (⟨S1024, .i32⟩ : BufTy).Contents (Elt F)),
   StableHlo.binary main_v85 main_call12_v2 main_call12_v3 (addi : (⟨S1024, .i32⟩ : BufTy).Contents (Elt F) → (⟨S1024, .i32⟩ : BufTy).Contents (Elt F) → (⟨S1024, .i32⟩ : BufTy).Contents (Elt F)),
   StableHlo.ternary main_call12_v1 main_call12_v3 main_v85 main_call12_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
   StableHlo.unary main_call12_v4 main_call12_v5 ((broadcastInDim S1024x1 ![0] bcast_S1024_S1024x1_0) : (⟨S1024, .i32⟩ : BufTy).Contents (Elt F) → (⟨S1024x1, .i32⟩ : BufTy).Contents (Elt F)),
   StableHlo.nullary main_call12_c_1 ((constantI S1 32 999#32) : (⟨S1, .i32⟩ : BufTy).Contents (Elt F)),
   StableHlo.nullary main_call12_c_2 ((constantI S_ 32 0#32) : (⟨S_, .i32⟩ : BufTy).Contents (Elt F)),
   StableHlo.unary main_call12_c_2 main_call12_v6 ((broadcastInDim S1024x1 ![] bcast_S_S1024x1) : (⟨S_, .i32⟩ : BufTy).Contents (Elt F) → (⟨S1024x1, .i32⟩ : BufTy).Contents (Elt F)),
   StableHlo.binary main_call12_v5 main_call12_v6 main_call12_v7 ((cmpi .sge) : (⟨S1024x1, .i32⟩ : BufTy).Contents (Elt F) → (⟨S1024x1, .i32⟩ : BufTy).Contents (Elt F) → (⟨S1024x1, .i1⟩ : BufTy).Contents (Elt F)),
   StableHlo.unary main_call12_c_1 main_call12_v8 ((broadcastInDim S1x1 ![1] bcast_S1_S1x1_1) : (⟨S1, .i32⟩ : BufTy).Contents (Elt F) → (⟨S1x1, .i32⟩ : BufTy).Contents (Elt F)),
   StableHlo.unary main_call12_v8 main_call12_v9 ((broadcastInDim S1024x1 ![0, 1] bcast_S1x1_S1024x1_0_1) : (⟨S1x1, .i32⟩ : BufTy).Contents (Elt F) → (⟨S1024x1, .i32⟩ : BufTy).Contents (Elt F)),
   StableHlo.binary main_call12_v5 main_call12_v9 main_call12_v10 ((cmpi .sle) : (⟨S1024x1, .i32⟩ : BufTy).Contents (Elt F) → (⟨S1024x1, .i32⟩ : BufTy).Contents (Elt F) → (⟨S1024x1, .i1⟩ : BufTy).Contents (Elt F)),
   StableHlo.binary main_call12_v7 main_call12_v10 main_call12_v11 (andi : (⟨S1024x1, .i1⟩ : BufTy).Contents (Elt F) → (⟨S1024x1, .i1⟩ : BufTy).Contents (Elt F) → (⟨S1024x1, .i1⟩ : BufTy).Contents (Elt F)),
   StableHlo.nullary main_call12_c_3 ((constantI S_ 1 1#1) : (⟨S_, .i1⟩ : BufTy).Contents (Elt F)),
   StableHlo.binary main_call12_v11 main_call12_c_3 main_call12_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
   StableHlo.binary main_arg3 main_call12_v5 main_call12_v13 ((fun x i => Host.gather gather_S1000x64_S1024x1_S1024x64_1_0_n_n_0_1_164 x i) : (⟨S1000x64, .f32⟩ : BufTy).Contents (Elt F) → (⟨S1024x1, .i32⟩ : BufTy).Contents (Elt F) → (⟨S1024x64, .f32⟩ : BufTy).Contents (Elt F)),
   StableHlo.unary main_call12_v12 main_call12_v14 ((broadcastInDim S1024x64 ![0] bcast_S1024_S1024x64_0) : (⟨S1024, .i1⟩ : BufTy).Contents (Elt F) → (⟨S1024x64, .i1⟩ : BufTy).Contents (Elt F)),
   StableHlo.nullary main_call12_cst ((constant S_ .f32 0x7FC00000#32) : (⟨S_, .f32⟩ : BufTy).Contents (Elt F)),
   StableHlo.unary main_call12_cst main_call12_v15 ((broadcastInDim S1024x64 ![] bcast_S_S1024x64) : (⟨S_, .f32⟩ : BufTy).Contents (Elt F) → (⟨S1024x64, .f32⟩ : BufTy).Contents (Elt F)),
   StableHlo.ternary main_call12_v14 main_call12_v13 main_call12_v15 main_v86 (select : (⟨S1024x64, .i1⟩ : BufTy).Contents (Elt F) → (⟨S1024x64, .f32⟩ : BufTy).Contents (Elt F) → (⟨S1024x64, .f32⟩ : BufTy).Contents (Elt F) → (⟨S1024x64, .f32⟩ : BufTy).Contents (Elt F)),
   StableHlo.reshape main_v86 main_v87 (rfl : (.f32 : EltTy) = .f32) shapeCasts_S1024x64_S65536]

/-- Operations that compute the first row of the result. -/
def stack1 : List (HloOp τ sig (Elt F)) :=
  [StableHlo.unary main_v77 main_v88 (broadcastInDim S1x65536 ![1] bcast_S65536_S1x65536_1 : (⟨S65536, .f32⟩ : BufTy).Contents (Elt F) → (⟨S1x65536, .f32⟩ : BufTy).Contents (Elt F))]

/-- Operations that compute the result. -/
def stack2 : List (HloOp τ sig (Elt F)) :=
  [StableHlo.unary main_v87 main_v89 (broadcastInDim S1x65536 ![1] bcast_S65536_S1x65536_1 : (⟨S65536, .f32⟩ : BufTy).Contents (Elt F) → (⟨S1x65536, .f32⟩ : BufTy).Contents (Elt F)),
   StableHlo.binary main_v88 main_v89 main_v90 ((fun a b => concatenate S2x65536 0 [⟨S1x65536, a⟩, ⟨S1x65536, b⟩] concatenates_S1x65536_S1x65536_S2x65536_d0) : (⟨S1x65536, .f32⟩ : BufTy).Contents (Elt F) → (⟨S1x65536, .f32⟩ : BufTy).Contents (Elt F) → (⟨S2x65536, .f32⟩ : BufTy).Contents (Elt F))]

/-- Window 0 of @main, as one line. -/
def line0 : List (HloOp τ sig (Elt F)) := dist ++ (near ++ (takeA ++ (keepA ++ (scoreA ++ (drawA ++ (takeB ++ (keepB ++ (scoreB))))))))

/-- Window 1 of @main, as one line. -/
def line1 : List (HloOp τ sig (Elt F)) := scoreB2 ++ (drawB ++ (rowsA ++ (rowsB ++ (err ++ (best ++ (pickA ++ (outA ++ (pickB ++ (outB ++ (stack1))))))))))

/-- Window 2 of @main, as one line. -/
def line2 : List (HloOp τ sig (Elt F)) := stack2

/-- The whole line. -/
def line : List (HloOp τ sig (Elt F)) := line0 ++ (line1 ++ line2)

set_option maxRecDepth 100000 in
set_option maxHeartbeats 4000000 in
/-- Window 0 of @main runs its line. -/
theorem part0_eq (c : Dev nD) : main_part0 (F := F) c = seq line0 := rfl

set_option maxRecDepth 100000 in
set_option maxHeartbeats 4000000 in
/-- Window 1 of @main runs its line. -/
theorem part1_eq (c : Dev nD) : main_part1 (F := F) c = seq line1 := rfl

set_option maxRecDepth 100000 in
set_option maxHeartbeats 4000000 in
/-- Window 2 of @main runs its line. -/
theorem part2_eq (c : Dev nD) : main_part2 (F := F) c = seq line2 := rfl

/-- @main runs the whole line. -/
theorem main_eq (c : Dev nD) : main (F := F) c = seq line := by
  simp only [line, seq_append, ← part0_eq c, ← part1_eq c, ← part2_eq c]
  rfl

theorem dist_sub : (dist : List (HloOp τ sig (Elt F))).Forall fun op => op.bufs ⊆ tcRefs τ sig := by
  simp [dist]

theorem dist_fresh : ∀ op ∈ (dist : List (HloOp τ sig (Elt F))), op.fresh = ∅ := by
  intro _ h; unfold dist at h
  (repeat (cases h with | head => rfl | tail _ h => ?_)); exact nomatch h

theorem near_sub : (near : List (HloOp τ sig (Elt F))).Forall fun op => op.bufs ⊆ tcRefs τ sig := by
  simp [near]

theorem near_fresh : ∀ op ∈ (near : List (HloOp τ sig (Elt F))), op.fresh = ∅ := by
  intro _ h; unfold near at h
  (repeat (cases h with | head => rfl | tail _ h => ?_)); exact nomatch h

theorem takeA_sub : (takeA : List (HloOp τ sig (Elt F))).Forall fun op => op.bufs ⊆ tcRefs τ sig := by
  simp [takeA]

theorem takeA_fresh : ∀ op ∈ (takeA : List (HloOp τ sig (Elt F))), op.fresh = ∅ := by
  intro _ h; unfold takeA at h
  (repeat (cases h with | head => rfl | tail _ h => ?_)); exact nomatch h

theorem keepA_sub : (keepA : List (HloOp τ sig (Elt F))).Forall fun op => op.bufs ⊆ tcRefs τ sig := by
  simp [keepA]

theorem keepA_fresh : ∀ op ∈ (keepA : List (HloOp τ sig (Elt F))), op.fresh = ∅ := by
  intro _ h; unfold keepA at h
  (repeat (cases h with | head => rfl | tail _ h => ?_)); exact nomatch h

theorem scoreA_sub : (scoreA : List (HloOp τ sig (Elt F))).Forall fun op => op.bufs ⊆ tcRefs τ sig := by
  simp [scoreA]

theorem scoreA_fresh : ∀ op ∈ (scoreA : List (HloOp τ sig (Elt F))), op.fresh = ∅ := by
  intro _ h; unfold scoreA at h
  (repeat (cases h with | head => rfl | tail _ h => ?_)); exact nomatch h

theorem drawA_sub : (drawA : List (HloOp τ sig (Elt F))).Forall fun op => op.bufs ⊆ tcRefs τ sig := by
  simp [drawA]

theorem drawA_fresh : ∀ op ∈ (drawA : List (HloOp τ sig (Elt F))), op.fresh = ∅ := by
  intro _ h; unfold drawA at h
  (repeat (cases h with | head => rfl | tail _ h => ?_)); exact nomatch h

theorem takeB_sub : (takeB : List (HloOp τ sig (Elt F))).Forall fun op => op.bufs ⊆ tcRefs τ sig := by
  simp [takeB]

theorem takeB_fresh : ∀ op ∈ (takeB : List (HloOp τ sig (Elt F))), op.fresh = ∅ := by
  intro _ h; unfold takeB at h
  (repeat (cases h with | head => rfl | tail _ h => ?_)); exact nomatch h

theorem keepB_sub : (keepB : List (HloOp τ sig (Elt F))).Forall fun op => op.bufs ⊆ tcRefs τ sig := by
  simp [keepB]

theorem keepB_fresh : ∀ op ∈ (keepB : List (HloOp τ sig (Elt F))), op.fresh = ∅ := by
  intro _ h; unfold keepB at h
  (repeat (cases h with | head => rfl | tail _ h => ?_)); exact nomatch h

theorem scoreB_sub : (scoreB : List (HloOp τ sig (Elt F))).Forall fun op => op.bufs ⊆ tcRefs τ sig := by
  simp [scoreB]

theorem scoreB_fresh : ∀ op ∈ (scoreB : List (HloOp τ sig (Elt F))), op.fresh = ∅ := by
  intro _ h; unfold scoreB at h
  (repeat (cases h with | head => rfl | tail _ h => ?_)); exact nomatch h

theorem scoreB2_sub : (scoreB2 : List (HloOp τ sig (Elt F))).Forall fun op => op.bufs ⊆ tcRefs τ sig := by
  simp [scoreB2]

theorem scoreB2_fresh : ∀ op ∈ (scoreB2 : List (HloOp τ sig (Elt F))), op.fresh = ∅ := by
  intro _ h; unfold scoreB2 at h
  (repeat (cases h with | head => rfl | tail _ h => ?_)); exact nomatch h

theorem drawB_sub : (drawB : List (HloOp τ sig (Elt F))).Forall fun op => op.bufs ⊆ tcRefs τ sig := by
  simp [drawB]

theorem drawB_fresh : ∀ op ∈ (drawB : List (HloOp τ sig (Elt F))), op.fresh = ∅ := by
  intro _ h; unfold drawB at h
  (repeat (cases h with | head => rfl | tail _ h => ?_)); exact nomatch h

theorem rowsA_sub : (rowsA : List (HloOp τ sig (Elt F))).Forall fun op => op.bufs ⊆ tcRefs τ sig := by
  simp [rowsA]

theorem rowsA_fresh : ∀ op ∈ (rowsA : List (HloOp τ sig (Elt F))), op.fresh = ∅ := by
  intro _ h; unfold rowsA at h
  (repeat (cases h with | head => rfl | tail _ h => ?_)); exact nomatch h

theorem rowsB_sub : (rowsB : List (HloOp τ sig (Elt F))).Forall fun op => op.bufs ⊆ tcRefs τ sig := by
  simp [rowsB]

theorem rowsB_fresh : ∀ op ∈ (rowsB : List (HloOp τ sig (Elt F))), op.fresh = ∅ := by
  intro _ h; unfold rowsB at h
  (repeat (cases h with | head => rfl | tail _ h => ?_)); exact nomatch h

theorem err_sub : (err : List (HloOp τ sig (Elt F))).Forall fun op => op.bufs ⊆ tcRefs τ sig := by
  simp [err]

theorem err_fresh : ∀ op ∈ (err : List (HloOp τ sig (Elt F))), op.fresh = ∅ := by
  intro _ h; unfold err at h
  (repeat (cases h with | head => rfl | tail _ h => ?_)); exact nomatch h

theorem best_sub : (best : List (HloOp τ sig (Elt F))).Forall fun op => op.bufs ⊆ tcRefs τ sig := by
  simp [best]

theorem best_fresh : ∀ op ∈ (best : List (HloOp τ sig (Elt F))), op.fresh = ∅ := by
  intro _ h; unfold best at h
  (repeat (cases h with | head => rfl | tail _ h => ?_)); exact nomatch h

theorem pickA_sub : (pickA : List (HloOp τ sig (Elt F))).Forall fun op => op.bufs ⊆ tcRefs τ sig := by
  simp [pickA]

theorem pickA_fresh : ∀ op ∈ (pickA : List (HloOp τ sig (Elt F))), op.fresh = ∅ := by
  intro _ h; unfold pickA at h
  (repeat (cases h with | head => rfl | tail _ h => ?_)); exact nomatch h

theorem outA_sub : (outA : List (HloOp τ sig (Elt F))).Forall fun op => op.bufs ⊆ tcRefs τ sig := by
  simp [outA]

theorem outA_fresh : ∀ op ∈ (outA : List (HloOp τ sig (Elt F))), op.fresh = ∅ := by
  intro _ h; unfold outA at h
  (repeat (cases h with | head => rfl | tail _ h => ?_)); exact nomatch h

theorem pickB_sub : (pickB : List (HloOp τ sig (Elt F))).Forall fun op => op.bufs ⊆ tcRefs τ sig := by
  simp [pickB]

theorem pickB_fresh : ∀ op ∈ (pickB : List (HloOp τ sig (Elt F))), op.fresh = ∅ := by
  intro _ h; unfold pickB at h
  (repeat (cases h with | head => rfl | tail _ h => ?_)); exact nomatch h

theorem outB_sub : (outB : List (HloOp τ sig (Elt F))).Forall fun op => op.bufs ⊆ tcRefs τ sig := by
  simp [outB]

theorem outB_fresh : ∀ op ∈ (outB : List (HloOp τ sig (Elt F))), op.fresh = ∅ := by
  intro _ h; unfold outB at h
  (repeat (cases h with | head => rfl | tail _ h => ?_)); exact nomatch h

theorem stack1_sub : (stack1 : List (HloOp τ sig (Elt F))).Forall fun op => op.bufs ⊆ tcRefs τ sig := by
  simp [stack1]

theorem stack1_fresh : ∀ op ∈ (stack1 : List (HloOp τ sig (Elt F))), op.fresh = ∅ := by
  intro _ h; unfold stack1 at h
  (repeat (cases h with | head => rfl | tail _ h => ?_)); exact nomatch h

theorem stack2_sub : (stack2 : List (HloOp τ sig (Elt F))).Forall fun op => op.bufs ⊆ tcRefs τ sig := by
  simp [stack2]

theorem stack2_fresh : ∀ op ∈ (stack2 : List (HloOp τ sig (Elt F))), op.fresh = ∅ := by
  intro _ h; unfold stack2 at h
  (repeat (cases h with | head => rfl | tail _ h => ?_)); exact nomatch h

theorem line_sub : (line : List (HloOp τ sig (Elt F))).Forall fun op => op.bufs ⊆ tcRefs τ sig := by
  simp only [line, line0, line1, line2, List.forall_append, dist_sub, near_sub, takeA_sub, keepA_sub, scoreA_sub, drawA_sub, takeB_sub, keepB_sub, scoreB_sub, scoreB2_sub, drawB_sub, rowsA_sub, rowsB_sub, err_sub, best_sub, pickA_sub, outA_sub, pickB_sub, outB_sub, stack1_sub, stack2_sub, and_self]

theorem line_fresh : ∀ op ∈ (line : List (HloOp τ sig (Elt F))), op.fresh = ∅ := by
  intro op h
  simp only [line, line0, line1, line2, List.mem_append, or_assoc] at h
  rcases h with h | h | h | h | h | h | h | h | h | h | h | h | h | h | h | h | h | h | h | h | h
  exacts [dist_fresh op h, near_fresh op h, takeA_fresh op h, keepA_fresh op h, scoreA_fresh op h, drawA_fresh op h, takeB_fresh op h, keepB_fresh op h, scoreB_fresh op h, scoreB2_fresh op h, drawB_fresh op h, rowsA_fresh op h, rowsB_fresh op h, err_fresh op h, best_fresh op h, pickA_fresh op h, outA_fresh op h, pickB_fresh op h, outB_fresh op h, stack1_fresh op h, stack2_fresh op h]

theorem no_scoped_refs : (Finset.univ.filter fun b : Ref sig .tc => b.isScoped) = ∅ := by decide
theorem no_scoped_sems : (Finset.univ.filter fun sm : SemLoc sig => sm.isScoped .tc) = ∅ := by decide

/-- The reference runs, and every buffer ends at what the line leaves there from the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after line (launchContents m d) (Proc.devRef .tc b) :=
  run_seq no_scoped_refs no_scoped_sems defs main (fun _ => line) main_eq (fun _ => line_sub) m ρ (fun _ => line_fresh)

end Cert.ReferenceIdeal.Line

end
-- ==== Proof.RefStages.lean ====
/- What each stage of the reference's line leaves in its result buffer, as a pure function of what the stage reads.  A function
   that the reference uses once per source is stated once. -/
module

public import proofs.«01_k».proof.Proof.RefRun
public import Idealize.ShloMosaic.Lib.StableHlo.RunClose

@[expose] public section

noncomputable section

namespace Cert.ReferenceIdeal.Line

open Idealize.ShloMosaic Idealize.ShloMosaic.TcCoe Idealize.SL.Sem Idealize.ShloMosaic.StableHlo
open Cert.ReferenceIdeal.Facts₀

variable {F : FTy → Type} [FloatOps F]

/-- Squared distances of the 1024 frames to the 1000 codes, as the reference writes them. -/
def distances (x : FVec F S65536 .f32) (cb : FVec F S1000x64 .f32) : FVec F S1024x1000 .f32 :=
  let v0 : FVec F S1024x64 .f32 := shapeCast _ x shapeCasts_S65536_S1024x64
  let v1 : FVec F S1024x64 .f32 := mulf v0 v0
  let cst : FVec F S_ .f32 := (constant S_ .f32 0x00000000#32)
  let v2 : FVec F S1024 .f32 := (fun x v => Host.reduceAdd x v reducesTo_S1024x64_S1024_d1 h_S_) v1 cst
  let v3 : FVec F S1024x1 .f32 := (broadcastInDim S1024x1 ![0] bcast_S1024_S1024x1_0) v2
  let cst_0 : FVec F S_ .f32 := (constant S_ .f32 0x40000000#32)
  let v4 : FVec F S1024x64 .f32 := (broadcastInDim S1024x64 ![] bcast_S_S1024x64) cst_0
  let v5 : FVec F S1024x64 .f32 := mulf v4 v0
  let v6 : FVec F S64x1000 .f32 := (transpose S64x1000 [1, 0] · transposes_S1000x64_S64x1000_1_0) cb
  let v7 : FVec F S1024x1000 .f32 := (fun l r => Host.dotGeneral dot_S1024x64_S64x1000_S1024x1000_1_0_0_1_n_n none l r) v5 v6
  let v8 : FVec F S1024x1000 .f32 := (broadcastInDim S1024x1000 ![0, 1] bcast_S1024x1_S1024x1000_0_1) v3
  let v9 : FVec F S1024x1000 .f32 := subf v8 v7
  let v10 : FVec F S1000x64 .f32 := mulf cb cb
  let cst_1 : FVec F S_ .f32 := (constant S_ .f32 0x00000000#32)
  let v11 : FVec F S1000 .f32 := (fun x v => Host.reduceAdd x v reducesTo_S1000x64_S1000_d1 h_S_) v10 cst_1
  let v12 : FVec F S1x1000 .f32 := (broadcastInDim S1x1000 ![1] bcast_S1000_S1x1000_1) v11
  let v13 : FVec F S1024x1000 .f32 := (broadcastInDim S1024x1000 ![0, 1] bcast_S1x1000_S1024x1000_0_1) v12
  let v14 : FVec F S1024x1000 .f32 := addf v9 v13
  v14

/-- The first index of each row's least entry. -/
def nearest (d2 : FVec F S1024x1000 .f32) : IVec S1024 32 :=
  let k_v0 : IVec S1024x1000 32 := (iotaInDim S1024x1000 32 1)
  let k_cst : FVec F S_ .f32 := (constant S_ .f32 0x7F800000#32)
  let k_c : IVec S_ 32 := (constantI S_ 32 0#32)
  let k_v1_0 : FVec F S1024 .f32 := (fun x y u v j => (Host.argReduce reducer_argmin_f32_i32 x y u v reducesTo_S1024x1000_S1024_d1 h_S_ j).1) d2 k_v0 k_cst k_c
  let v15 : IVec S1024 32 := (fun x y u v j => (Host.argReduce reducer_argmin_f32_i32 x y u v reducesTo_S1024x1000_S1024_d1 h_S_ j).2) d2 k_v0 k_cst k_c
  v15

/-- The rows of a prior that the codes name. -/
def takePrior (prior : FVec F S1000x1000 .f32) (codes : IVec S1024 32) : FVec F S1024x1000 .f32 :=
  let k_c : IVec S_ 32 := (constantI S_ 32 0#32)
  let k_v0 : IVec S1024 32 := (broadcastInDim S1024 ![] bcast_S_S1024) k_c
  let k_v1 : IVec S1024 1 := (cmpi .slt) codes k_v0
  let k_c_0 : IVec S_ 32 := (constantI S_ 32 1000#32)
  let k_v2 : IVec S1024 32 := (broadcastInDim S1024 ![] bcast_S_S1024) k_c_0
  let k_v3 : IVec S1024 32 := addi codes k_v2
  let k_v4 : IVec S1024 32 := select k_v1 k_v3 codes
  let k_v5 : IVec S1024x1 32 := (broadcastInDim S1024x1 ![0] bcast_S1024_S1024x1_0) k_v4
  let k_c_1 : IVec S1 32 := (constantI S1 32 999#32)
  let k_c_2 : IVec S_ 32 := (constantI S_ 32 0#32)
  let k_v6 : IVec S1024x1 32 := (broadcastInDim S1024x1 ![] bcast_S_S1024x1) k_c_2
  let k_v7 : IVec S1024x1 1 := (cmpi .sge) k_v5 k_v6
  let k_v8 : IVec S1x1 32 := (broadcastInDim S1x1 ![1] bcast_S1_S1x1_1) k_c_1
  let k_v9 : IVec S1024x1 32 := (broadcastInDim S1024x1 ![0, 1] bcast_S1x1_S1024x1_0_1) k_v8
  let k_v10 : IVec S1024x1 1 := (cmpi .sle) k_v5 k_v9
  let k_v11 : IVec S1024x1 1 := andi k_v7 k_v10
  let k_c_3 : IVec S_ 1 := (constantI S_ 1 1#1)
  let k_v12 : IVec S1024 1 := (fun x v => Host.reduce IntOp.andi x v reducesTo_S1024x1_S1024_d1 h_S_) k_v11 k_c_3
  let k_v13 : FVec F S1024x1000 .f32 := (fun x i => Host.gather gather_S1000x1000_S1024x1_S1024x1000_1_0_n_n_0_1_11000 x i) prior k_v5
  let k_v14 : IVec S1024x1000 1 := (broadcastInDim S1024x1000 ![0] bcast_S1024_S1024x1000_0) k_v12
  let k_cst : FVec F S_ .f32 := (constant S_ .f32 0x7FC00000#32)
  let k_v15 : FVec F S1024x1000 .f32 := (broadcastInDim S1024x1000 ![] bcast_S_S1024x1000) k_cst
  let v16 : FVec F S1024x1000 .f32 := select k_v14 k_v13 k_v15
  v16

/-- The logits divided by one, those under the row's 64th largest replaced by minus infinity. -/
def keepTop (logits : FVec F S1024x1000 .f32) : FVec F S1024x1000 .f32 :=
  let cst_2 : FVec F S_ .f32 := (constant S_ .f32 0x3F800000#32)
  let v17 : FVec F S1024x1000 .f32 := (broadcastInDim S1024x1000 ![] bcast_S_S1024x1000) cst_2
  let v18 : FVec F S1024x1000 .f32 := Host.divf logits v17
  let values : FVec F S1024x64 .f32 := (fun x => (Host.topK S1024x64 1 (FloatOps.cmpfTotal .gt) x sliceFits_S1024x1000_S1024x64).1) v18
  let indices : IVec S1024x64 32 := (fun x => (Host.topK S1024x64 1 (FloatOps.cmpfTotal .gt) x sliceFits_S1024x1000_S1024x64).2) v18
  let v19 : FVec F S1024x1 .f32 := (extractStridedSlice S1024x1 ![0, 63] · slices_S1024x64_S1024x1_0_63) values
  let v20 : FVec F S1024x1000 .f32 := (broadcastInDim S1024x1000 ![0, 1] bcast_S1024x1_S1024x1000_0_1) v19
  let v21 : IVec S1024x1000 1 := (cmpf .oge) v18 v20
  let cst_3 : FVec F S_ .f32 := (constant S_ .f32 0xFF800000#32)
  let k_v0 : FVec F S_ .f32 := id cst_3
  let k_v1 : FVec F S1024x1000 .f32 := (broadcastInDim S1024x1000 ![] bcast_S_S1024x1000) k_v0
  let v22 : FVec F S1024x1000 .f32 := select v21 v18 k_v1
  v22

/-- The filtered logits plus Gumbel noise, for every candidate. -/
def scores (filt : FVec F S1024x1000 .f32) (u : FVec F S32x1024x1000 .f32) : FVec F S32x1024x1000 .f32 :=
  let cst_4 : FVec F S_ .f32 := (constant S_ .f32 0x3089705F#32)
  let v23 : FVec F S32x1024x1000 .f32 := (broadcastInDim S32x1024x1000 ![] bcast_S_S32x1024x1000) cst_4
  let v24 : FVec F S32x1024x1000 .f32 := addf u v23
  let v25 : FVec F S32x1024x1000 .f32 := Host.log v24
  let v26 : FVec F S32x1024x1000 .f32 := Host.negf v25
  let cst_5 : FVec F S_ .f32 := (constant S_ .f32 0x3089705F#32)
  let v27 : FVec F S32x1024x1000 .f32 := (broadcastInDim S32x1024x1000 ![] bcast_S_S32x1024x1000) cst_5
  let v28 : FVec F S32x1024x1000 .f32 := addf v26 v27
  let v29 : FVec F S32x1024x1000 .f32 := Host.log v28
  let v30 : FVec F S32x1024x1000 .f32 := Host.negf v29
  let v31 : FVec F S1x1024x1000 .f32 := (broadcastInDim S1x1024x1000 ![1, 2] bcast_S1024x1000_S1x1024x1000_1_2) filt
  let v32 : FVec F S32x1024x1000 .f32 := (broadcastInDim S32x1024x1000 ![0, 1, 2] bcast_S1x1024x1000_S32x1024x1000_0_1_2) v31
  let v33 : FVec F S32x1024x1000 .f32 := addf v32 v30
  v33

/-- The first index of the greatest score. -/
def draw (score : FVec F S32x1024x1000 .f32) : IVec S32x1024 32 :=
  let k_v0 : IVec S32x1024x1000 32 := (iotaInDim S32x1024x1000 32 2)
  let k_cst : FVec F S_ .f32 := (constant S_ .f32 0xFF800000#32)
  let k_c : IVec S_ 32 := (constantI S_ 32 0#32)
  let k_v1_0 : FVec F S32x1024 .f32 := (fun x y u v j => (Host.argReduce reducer_argmax_f32_i32 x y u v reducesTo_S32x1024x1000_S32x1024_d2 h_S_ j).1) score k_v0 k_cst k_c
  let v34 : IVec S32x1024 32 := (fun x y u v j => (Host.argReduce reducer_argmax_f32_i32 x y u v reducesTo_S32x1024x1000_S32x1024_d2 h_S_ j).2) score k_v0 k_cst k_c
  v34

/-- The candidates' waveforms: the codebook rows of their tokens, flattened. -/
def rows (cb : FVec F S1000x64 .f32) (tok : IVec S32x1024 32) : FVec F S32x65536 .f32 :=
  let k_c : IVec S_ 32 := (constantI S_ 32 0#32)
  let k_v0 : IVec S32x1024 32 := (broadcastInDim S32x1024 ![] bcast_S_S32x1024) k_c
  let k_v1 : IVec S32x1024 1 := (cmpi .slt) tok k_v0
  let k_c_0 : IVec S_ 32 := (constantI S_ 32 1000#32)
  let k_v2 : IVec S32x1024 32 := (broadcastInDim S32x1024 ![] bcast_S_S32x1024) k_c_0
  let k_v3 : IVec S32x1024 32 := addi tok k_v2
  let k_v4 : IVec S32x1024 32 := select k_v1 k_v3 tok
  let k_v5 : IVec S32x1024x1 32 := (broadcastInDim S32x1024x1 ![0, 1] bcast_S32x1024_S32x1024x1_0_1) k_v4
  let k_c_1 : IVec S1 32 := (constantI S1 32 999#32)
  let k_c_2 : IVec S_ 32 := (constantI S_ 32 0#32)
  let k_v6 : IVec S32x1024x1 32 := (broadcastInDim S32x1024x1 ![] bcast_S_S32x1024x1) k_c_2
  let k_v7 : IVec S32x1024x1 1 := (cmpi .sge) k_v5 k_v6
  let k_v8 : IVec S1x1x1 32 := (broadcastInDim S1x1x1 ![2] bcast_S1_S1x1x1_2) k_c_1
  let k_v9 : IVec S32x1024x1 32 := (broadcastInDim S32x1024x1 ![0, 1, 2] bcast_S1x1x1_S32x1024x1_0_1_2) k_v8
  let k_v10 : IVec S32x1024x1 1 := (cmpi .sle) k_v5 k_v9
  let k_v11 : IVec S32x1024x1 1 := andi k_v7 k_v10
  let k_c_3 : IVec S_ 1 := (constantI S_ 1 1#1)
  let k_v12 : IVec S32x1024 1 := (fun x v => Host.reduce IntOp.andi x v reducesTo_S32x1024x1_S32x1024_d2 h_S_) k_v11 k_c_3
  let k_v13 : FVec F S32x1024x64 .f32 := (fun x i => Host.gather gather_S1000x64_S32x1024x1_S32x1024x64_2_0_n_n_0_2_164 x i) cb k_v5
  let k_v14 : IVec S32x1024x64 1 := (broadcastInDim S32x1024x64 ![0, 1] bcast_S32x1024_S32x1024x64_0_1) k_v12
  let k_cst : FVec F S_ .f32 := (constant S_ .f32 0x7FC00000#32)
  let k_v15 : FVec F S32x1024x64 .f32 := (broadcastInDim S32x1024x64 ![] bcast_S_S32x1024x64) k_cst
  let v54 : FVec F S32x1024x64 .f32 := select k_v14 k_v13 k_v15
  let v55 : FVec F S32x65536 .f32 := shapeCast _ v54 shapeCasts_S32x1024x64_S32x65536
  v55

/-- The norm of each candidate's reconstruction error. -/
def errors (r0 : FVec F S32x65536 .f32) (r1 : FVec F S32x65536 .f32) (x : FVec F S65536 .f32) : FVec F S32 .f32 :=
  let cst_12 : FVec F S_ .f32 := (constant S_ .f32 0x3F000000#32)
  let v58 : FVec F S32x65536 .f32 := (broadcastInDim S32x65536 ![] bcast_S_S32x65536) cst_12
  let v59 : FVec F S32x65536 .f32 := mulf v58 r0
  let cst_13 : FVec F S_ .f32 := (constant S_ .f32 0x3F000000#32)
  let v60 : FVec F S32x65536 .f32 := (broadcastInDim S32x65536 ![] bcast_S_S32x65536) cst_13
  let v61 : FVec F S32x65536 .f32 := mulf v60 r1
  let v62 : FVec F S32x65536 .f32 := addf v59 v61
  let v63 : FVec F S1x65536 .f32 := (broadcastInDim S1x65536 ![1] bcast_S65536_S1x65536_1) x
  let v64 : FVec F S32x65536 .f32 := (broadcastInDim S32x65536 ![0, 1] bcast_S1x65536_S32x65536_0_1) v63
  let v65 : FVec F S32x65536 .f32 := subf v62 v64
  let k_v0 : FVec F S32x65536 .f32 := mulf v65 v65
  let k_cst : FVec F S_ .f32 := (constant S_ .f32 0x00000000#32)
  let k_v1 : FVec F S32 .f32 := (fun x v => Host.reduceAdd x v reducesTo_S32x65536_S32_d1 h_S_) k_v0 k_cst
  let v66 : FVec F S32 .f32 := Host.sqrt k_v1
  v66

/-- The first candidate of least error. -/
def least (e : FVec F S32 .f32) : IVec S_ 32 :=
  let k_v0 : IVec S32 32 := (iotaInDim S32 32 0)
  let k_cst : FVec F S_ .f32 := (constant S_ .f32 0x7F800000#32)
  let k_c : IVec S_ 32 := (constantI S_ 32 0#32)
  let k_v1_0 : FVec F S_ .f32 := (fun x y u v j => (Host.argReduce reducer_argmin_f32_i32 x y u v reducesTo_S32_S_d0 h_S_ j).1) e k_v0 k_cst k_c
  let v67 : IVec S_ 32 := (fun x y u v j => (Host.argReduce reducer_argmin_f32_i32 x y u v reducesTo_S32_S_d0 h_S_ j).2) e k_v0 k_cst k_c
  v67

/-- The tokens of the candidate at an index. -/
def pick (tok : IVec S32x1024 32) (best : IVec S_ 32) : IVec S1024 32 :=
  let c : IVec S_ 32 := (constantI S_ 32 0#32)
  let v68 : IVec S_ 1 := (cmpi .slt) best c
  let c_14 : IVec S_ 32 := (constantI S_ 32 32#32)
  let v69 : IVec S_ 32 := addi best c_14
  let v70 : IVec S_ 32 := select v68 v69 best
  let c_15 : IVec S_ 32 := (constantI S_ 32 0#32)
  let c_16 : IVec S_ 32 := (constantI S_ 32 0#32)
  let v71 : IVec S_ 1 := (cmpi .slt) c_15 c_16
  let c_17 : IVec S_ 32 := (constantI S_ 32 0#32)
  let c_18 : IVec S_ 32 := (constantI S_ 32 1024#32)
  let v72 : IVec S_ 32 := addi c_17 c_18
  let c_19 : IVec S_ 32 := (constantI S_ 32 0#32)
  let v73 : IVec S_ 32 := select v71 v72 c_19
  let v74 : IVec S1x1024 32 := (fun x i => Host.dynamicSlice S1x1024 x (fun k => (i k (Shape.Idx.first h_S_)).toInt) sliceFits_S32x1024_S1x1024) tok ![v70, v73]
  let v75 : IVec S1024 32 := shapeCast _ v74 shapeCasts_S1x1024_S1024
  v75

/-- The waveform of one candidate's tokens. -/
def wave (cb : FVec F S1000x64 .f32) (tok : IVec S1024 32) : FVec F S65536 .f32 :=
  let k_c : IVec S_ 32 := (constantI S_ 32 0#32)
  let k_v0 : IVec S1024 32 := (broadcastInDim S1024 ![] bcast_S_S1024) k_c
  let k_v1 : IVec S1024 1 := (cmpi .slt) tok k_v0
  let k_c_0 : IVec S_ 32 := (constantI S_ 32 1000#32)
  let k_v2 : IVec S1024 32 := (broadcastInDim S1024 ![] bcast_S_S1024) k_c_0
  let k_v3 : IVec S1024 32 := addi tok k_v2
  let k_v4 : IVec S1024 32 := select k_v1 k_v3 tok
  let k_v5 : IVec S1024x1 32 := (broadcastInDim S1024x1 ![0] bcast_S1024_S1024x1_0) k_v4
  let k_c_1 : IVec S1 32 := (constantI S1 32 999#32)
  let k_c_2 : IVec S_ 32 := (constantI S_ 32 0#32)
  let k_v6 : IVec S1024x1 32 := (broadcastInDim S1024x1 ![] bcast_S_S1024x1) k_c_2
  let k_v7 : IVec S1024x1 1 := (cmpi .sge) k_v5 k_v6
  let k_v8 : IVec S1x1 32 := (broadcastInDim S1x1 ![1] bcast_S1_S1x1_1) k_c_1
  let k_v9 : IVec S1024x1 32 := (broadcastInDim S1024x1 ![0, 1] bcast_S1x1_S1024x1_0_1) k_v8
  let k_v10 : IVec S1024x1 1 := (cmpi .sle) k_v5 k_v9
  let k_v11 : IVec S1024x1 1 := andi k_v7 k_v10
  let k_c_3 : IVec S_ 1 := (constantI S_ 1 1#1)
  let k_v12 : IVec S1024 1 := (fun x v => Host.reduce IntOp.andi x v reducesTo_S1024x1_S1024_d1 h_S_) k_v11 k_c_3
  let k_v13 : FVec F S1024x64 .f32 := (fun x i => Host.gather gather_S1000x64_S1024x1_S1024x64_1_0_n_n_0_1_164 x i) cb k_v5
  let k_v14 : IVec S1024x64 1 := (broadcastInDim S1024x64 ![0] bcast_S1024_S1024x64_0) k_v12
  let k_cst : FVec F S_ .f32 := (constant S_ .f32 0x7FC00000#32)
  let k_v15 : FVec F S1024x64 .f32 := (broadcastInDim S1024x64 ![] bcast_S_S1024x64) k_cst
  let v76 : FVec F S1024x64 .f32 := select k_v14 k_v13 k_v15
  let v77 : FVec F S65536 .f32 := shapeCast _ v76 shapeCasts_S1024x64_S65536
  v77

/-- The two waveforms, one over the other. -/
def stacked (a : FVec F S65536 .f32) (b : FVec F S65536 .f32) : FVec F S2x65536 .f32 :=
  let v88 : FVec F S1x65536 .f32 := (broadcastInDim S1x65536 ![1] bcast_S65536_S1x65536_1) a
  let v89 : FVec F S1x65536 .f32 := (broadcastInDim S1x65536 ![1] bcast_S65536_S1x65536_1) b
  let v90 : FVec F S2x65536 .f32 := (fun a b => concatenate S2x65536 0 [⟨S1x65536, a⟩, ⟨S1x65536, b⟩] concatenates_S1x65536_S1x65536_S2x65536_d0) v88 v89
  v90

theorem dist_read (V : Valuation τ sig (Elt F)) :
    after dist V (no_index (Proc.devRef .tc main_v14)) = distances (V (no_index (Proc.devRef .tc main_arg0))) (V (no_index (Proc.devRef .tc main_arg3))) := by
  unfold dist
  after_reads_simp
  rfl

theorem near_read (V : Valuation τ sig (Elt F)) :
    after near V (no_index (Proc.devRef .tc main_v15)) = nearest (V (no_index (Proc.devRef .tc main_v14))) := by
  unfold near
  after_reads_simp
  rfl

theorem takeA_read (V : Valuation τ sig (Elt F)) :
    after takeA V (no_index (Proc.devRef .tc main_v16)) = takePrior (V (no_index (Proc.devRef .tc main_arg4))) (V (no_index (Proc.devRef .tc main_v15))) := by
  unfold takeA
  after_reads_simp
  rfl

theorem takeB_read (V : Valuation τ sig (Elt F)) :
    after takeB V (no_index (Proc.devRef .tc main_v35)) = takePrior (V (no_index (Proc.devRef .tc main_arg5))) (V (no_index (Proc.devRef .tc main_v15))) := by
  unfold takeB
  after_reads_simp
  rfl

theorem keepA_read (V : Valuation τ sig (Elt F)) :
    after keepA V (no_index (Proc.devRef .tc main_v22)) = keepTop (V (no_index (Proc.devRef .tc main_v16))) := by
  unfold keepA
  after_reads_simp
  rfl

theorem keepB_read (V : Valuation τ sig (Elt F)) :
    after keepB V (no_index (Proc.devRef .tc main_v41)) = keepTop (V (no_index (Proc.devRef .tc main_v35))) := by
  unfold keepB
  after_reads_simp
  rfl

theorem scoreA_read (V : Valuation τ sig (Elt F)) :
    after scoreA V (no_index (Proc.devRef .tc main_v33)) = scores (V (no_index (Proc.devRef .tc main_v22))) (V (no_index (Proc.devRef .tc main_arg1))) := by
  unfold scoreA
  after_reads_simp
  rfl

theorem scoreB2_read (V : Valuation τ sig (Elt F)) :
    after scoreB2 (after scoreB V) (no_index (Proc.devRef .tc main_v52)) = scores (V (no_index (Proc.devRef .tc main_v41))) (V (no_index (Proc.devRef .tc main_arg2))) := by
  unfold scoreB scoreB2
  after_reads_simp
  rfl

theorem drawA_read (V : Valuation τ sig (Elt F)) :
    after drawA V (no_index (Proc.devRef .tc main_v34)) = draw (V (no_index (Proc.devRef .tc main_v33))) := by
  unfold drawA
  after_reads_simp
  rfl

theorem drawB_read (V : Valuation τ sig (Elt F)) :
    after drawB V (no_index (Proc.devRef .tc main_v53)) = draw (V (no_index (Proc.devRef .tc main_v52))) := by
  unfold drawB
  after_reads_simp
  rfl

theorem rowsA_read (V : Valuation τ sig (Elt F)) :
    after rowsA V (no_index (Proc.devRef .tc main_v55)) = rows (V (no_index (Proc.devRef .tc main_arg3))) (V (no_index (Proc.devRef .tc main_v34))) := by
  unfold rowsA
  after_reads_simp
  rfl

theorem rowsB_read (V : Valuation τ sig (Elt F)) :
    after rowsB V (no_index (Proc.devRef .tc main_v57)) = rows (V (no_index (Proc.devRef .tc main_arg3))) (V (no_index (Proc.devRef .tc main_v53))) := by
  unfold rowsB
  after_reads_simp
  rfl

theorem err_read (V : Valuation τ sig (Elt F)) :
    after err V (no_index (Proc.devRef .tc main_v66)) = errors (V (no_index (Proc.devRef .tc main_v55))) (V (no_index (Proc.devRef .tc main_v57))) (V (no_index (Proc.devRef .tc main_arg0))) := by
  unfold err
  after_reads_simp
  rfl

theorem best_read (V : Valuation τ sig (Elt F)) :
    after best V (no_index (Proc.devRef .tc main_v67)) = least (V (no_index (Proc.devRef .tc main_v66))) := by
  unfold best
  after_reads_simp
  rfl

theorem pickA_read (V : Valuation τ sig (Elt F)) :
    after pickA V (no_index (Proc.devRef .tc main_v75)) = pick (V (no_index (Proc.devRef .tc main_v34))) (V (no_index (Proc.devRef .tc main_v67))) := by
  unfold pickA
  after_reads_simp [unaryIndexed_result_read, indexContents_cons, indexContents_empty, dropContentsCast]
  rfl

theorem pickB_read (V : Valuation τ sig (Elt F)) :
    after pickB V (no_index (Proc.devRef .tc main_v85)) = pick (V (no_index (Proc.devRef .tc main_v53))) (V (no_index (Proc.devRef .tc main_v67))) := by
  unfold pickB
  after_reads_simp [unaryIndexed_result_read, indexContents_cons, indexContents_empty, dropContentsCast]
  rfl

theorem outA_read (V : Valuation τ sig (Elt F)) :
    after outA V (no_index (Proc.devRef .tc main_v77)) = wave (V (no_index (Proc.devRef .tc main_arg3))) (V (no_index (Proc.devRef .tc main_v75))) := by
  unfold outA
  after_reads_simp
  rfl

theorem outB_read (V : Valuation τ sig (Elt F)) :
    after outB V (no_index (Proc.devRef .tc main_v87)) = wave (V (no_index (Proc.devRef .tc main_arg3))) (V (no_index (Proc.devRef .tc main_v85))) := by
  unfold outB
  after_reads_simp
  rfl

theorem stack2_read (V : Valuation τ sig (Elt F)) :
    after stack2 (after stack1 V) (no_index (Proc.devRef .tc main_v90)) = stacked (V (no_index (Proc.devRef .tc main_v77))) (V (no_index (Proc.devRef .tc main_v87))) := by
  unfold stack1 stack2
  after_reads_simp
  rfl

theorem dist_keep (V : Valuation τ sig (Elt F)) {r : Ref sig .tc} (h : r ∉ [main_v0, main_v1, main_cst, main_v2, main_v3, main_cst_0, main_v4, main_v5, main_v6, main_v7, main_v8, main_v9, main_v10, main_cst_1, main_v11, main_v12, main_v13, main_v14]) :
    after dist V (no_index (Proc.devRef .tc r)) = V (Proc.devRef .tc r) :=
  after_unwritten [main_v0, main_v1, main_cst, main_v2, main_v3, main_cst_0, main_v4, main_v5, main_v6, main_v7, main_v8, main_v9, main_v10, main_cst_1, main_v11, main_v12, main_v13, main_v14] rfl h V

theorem near_keep (V : Valuation τ sig (Elt F)) {r : Ref sig .tc} (h : r ∉ [main_call0_v0, main_call0_cst, main_call0_c, main_call0_v1_0, main_v15]) :
    after near V (no_index (Proc.devRef .tc r)) = V (Proc.devRef .tc r) :=
  after_unwritten [main_call0_v0, main_call0_cst, main_call0_c, main_call0_v1_0, main_v15] rfl h V

theorem takeA_keep (V : Valuation τ sig (Elt F)) {r : Ref sig .tc} (h : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]) :
    after takeA V (no_index (Proc.devRef .tc r)) = V (Proc.devRef .tc r) :=
  after_unwritten [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16] rfl h V

theorem keepA_keep (V : Valuation τ sig (Elt F)) {r : Ref sig .tc} (h : r ∉ [main_cst_2, main_v17, main_v18, main_values, main_indices, main_v19, main_v20, main_v21, main_cst_3, main_call2_v0, main_call2_v1, main_v22]) :
    after keepA V (no_index (Proc.devRef .tc r)) = V (Proc.devRef .tc r) :=
  after_unwritten [main_cst_2, main_v17, main_v18, main_values, main_indices, main_v19, main_v20, main_v21, main_cst_3, main_call2_v0, main_call2_v1, main_v22] rfl h V

theorem scoreA_keep (V : Valuation τ sig (Elt F)) {r : Ref sig .tc} (h : r ∉ [main_cst_4, main_v23, main_v24, main_v25, main_v26, main_cst_5, main_v27, main_v28, main_v29, main_v30, main_v31, main_v32, main_v33]) :
    after scoreA V (no_index (Proc.devRef .tc r)) = V (Proc.devRef .tc r) :=
  after_unwritten [main_cst_4, main_v23, main_v24, main_v25, main_v26, main_cst_5, main_v27, main_v28, main_v29, main_v30, main_v31, main_v32, main_v33] rfl h V

theorem drawA_keep (V : Valuation τ sig (Elt F)) {r : Ref sig .tc} (h : r ∉ [main_call3_v0, main_call3_cst, main_call3_c, main_call3_v1_0, main_v34]) :
    after drawA V (no_index (Proc.devRef .tc r)) = V (Proc.devRef .tc r) :=
  after_unwritten [main_call3_v0, main_call3_cst, main_call3_c, main_call3_v1_0, main_v34] rfl h V

theorem takeB_keep (V : Valuation τ sig (Elt F)) {r : Ref sig .tc} (h : r ∉ [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v35]) :
    after takeB V (no_index (Proc.devRef .tc r)) = V (Proc.devRef .tc r) :=
  after_unwritten [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v35] rfl h V

theorem keepB_keep (V : Valuation τ sig (Elt F)) {r : Ref sig .tc} (h : r ∉ [main_cst_6, main_v36, main_v37, main_values_7, main_indices_8, main_v38, main_v39, main_v40, main_cst_9, main_call5_v0, main_call5_v1, main_v41]) :
    after keepB V (no_index (Proc.devRef .tc r)) = V (Proc.devRef .tc r) :=
  after_unwritten [main_cst_6, main_v36, main_v37, main_values_7, main_indices_8, main_v38, main_v39, main_v40, main_cst_9, main_call5_v0, main_call5_v1, main_v41] rfl h V

theorem scoreB_keep (V : Valuation τ sig (Elt F)) {r : Ref sig .tc} (h : r ∉ [main_cst_10, main_v42, main_v43, main_v44, main_v45]) :
    after scoreB V (no_index (Proc.devRef .tc r)) = V (Proc.devRef .tc r) :=
  after_unwritten [main_cst_10, main_v42, main_v43, main_v44, main_v45] rfl h V

theorem scoreB2_keep (V : Valuation τ sig (Elt F)) {r : Ref sig .tc} (h : r ∉ [main_cst_11, main_v46, main_v47, main_v48, main_v49, main_v50, main_v51, main_v52]) :
    after scoreB2 V (no_index (Proc.devRef .tc r)) = V (Proc.devRef .tc r) :=
  after_unwritten [main_cst_11, main_v46, main_v47, main_v48, main_v49, main_v50, main_v51, main_v52] rfl h V

theorem drawB_keep (V : Valuation τ sig (Elt F)) {r : Ref sig .tc} (h : r ∉ [main_call6_v0, main_call6_cst, main_call6_c, main_call6_v1_0, main_v53]) :
    after drawB V (no_index (Proc.devRef .tc r)) = V (Proc.devRef .tc r) :=
  after_unwritten [main_call6_v0, main_call6_cst, main_call6_c, main_call6_v1_0, main_v53] rfl h V

theorem rowsA_keep (V : Valuation τ sig (Elt F)) {r : Ref sig .tc} (h : r ∉ [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v54, main_v55]) :
    after rowsA V (no_index (Proc.devRef .tc r)) = V (Proc.devRef .tc r) :=
  after_unwritten [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v54, main_v55] rfl h V

theorem rowsB_keep (V : Valuation τ sig (Elt F)) {r : Ref sig .tc} (h : r ∉ [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v56, main_v57]) :
    after rowsB V (no_index (Proc.devRef .tc r)) = V (Proc.devRef .tc r) :=
  after_unwritten [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v56, main_v57] rfl h V

theorem err_keep (V : Valuation τ sig (Elt F)) {r : Ref sig .tc} (h : r ∉ [main_cst_12, main_v58, main_v59, main_cst_13, main_v60, main_v61, main_v62, main_v63, main_v64, main_v65, main_call9_v0, main_call9_cst, main_call9_v1, main_v66]) :
    after err V (no_index (Proc.devRef .tc r)) = V (Proc.devRef .tc r) :=
  after_unwritten [main_cst_12, main_v58, main_v59, main_cst_13, main_v60, main_v61, main_v62, main_v63, main_v64, main_v65, main_call9_v0, main_call9_cst, main_call9_v1, main_v66] rfl h V

theorem best_keep (V : Valuation τ sig (Elt F)) {r : Ref sig .tc} (h : r ∉ [main_call10_v0, main_call10_cst, main_call10_c, main_call10_v1_0, main_v67]) :
    after best V (no_index (Proc.devRef .tc r)) = V (Proc.devRef .tc r) :=
  after_unwritten [main_call10_v0, main_call10_cst, main_call10_c, main_call10_v1_0, main_v67] rfl h V

theorem pickA_keep (V : Valuation τ sig (Elt F)) {r : Ref sig .tc} (h : r ∉ [main_c, main_v68, main_c_14, main_v69, main_v70, main_c_15, main_c_16, main_v71, main_c_17, main_c_18, main_v72, main_c_19, main_v73, main_v74, main_v75]) :
    after pickA V (no_index (Proc.devRef .tc r)) = V (Proc.devRef .tc r) :=
  after_unwritten [main_c, main_v68, main_c_14, main_v69, main_v70, main_c_15, main_c_16, main_v71, main_c_17, main_c_18, main_v72, main_c_19, main_v73, main_v74, main_v75] rfl h V

theorem outA_keep (V : Valuation τ sig (Elt F)) {r : Ref sig .tc} (h : r ∉ [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v76, main_v77]) :
    after outA V (no_index (Proc.devRef .tc r)) = V (Proc.devRef .tc r) :=
  after_unwritten [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v76, main_v77] rfl h V

theorem pickB_keep (V : Valuation τ sig (Elt F)) {r : Ref sig .tc} (h : r ∉ [main_c_20, main_v78, main_c_21, main_v79, main_v80, main_c_22, main_c_23, main_v81, main_c_24, main_c_25, main_v82, main_c_26, main_v83, main_v84, main_v85]) :
    after pickB V (no_index (Proc.devRef .tc r)) = V (Proc.devRef .tc r) :=
  after_unwritten [main_c_20, main_v78, main_c_21, main_v79, main_v80, main_c_22, main_c_23, main_v81, main_c_24, main_c_25, main_v82, main_c_26, main_v83, main_v84, main_v85] rfl h V

theorem outB_keep (V : Valuation τ sig (Elt F)) {r : Ref sig .tc} (h : r ∉ [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v86, main_v87]) :
    after outB V (no_index (Proc.devRef .tc r)) = V (Proc.devRef .tc r) :=
  after_unwritten [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v86, main_v87] rfl h V

theorem stack1_keep (V : Valuation τ sig (Elt F)) {r : Ref sig .tc} (h : r ∉ [main_v88]) :
    after stack1 V (no_index (Proc.devRef .tc r)) = V (Proc.devRef .tc r) :=
  after_unwritten [main_v88] rfl h V

theorem stack2_keep (V : Valuation τ sig (Elt F)) {r : Ref sig .tc} (h : r ∉ [main_v89, main_v90]) :
    after stack2 V (no_index (Proc.devRef .tc r)) = V (Proc.devRef .tc r) :=
  after_unwritten [main_v89, main_v90] rfl h V

end Cert.ReferenceIdeal.Line

end
-- ==== Proof.RefValue.lean ====
/- The reference's result as one pure function of its six arguments, and its run: it ends with that result and its arguments unchanged. -/
module

public import proofs.«01_k».proof.Proof.RefStages
public import Idealize.ShloMosaic.Lib.Quiescent

@[expose] public section

noncomputable section

namespace Cert.ReferenceIdeal.Line

open Idealize.ShloMosaic Idealize.ShloMosaic.TcCoe Idealize.SL.Sem Idealize.ShloMosaic.StableHlo

variable {F : FTy → Type} [FloatOps F]

/-- The tokens that the reference draws for one source: the prior rows of the frames' codes, filtered, with Gumbel noise. -/
def tokens (x : FVec F S65536 .f32) (u : FVec F S32x1024x1000 .f32) (cb : FVec F S1000x64 .f32) (prior : FVec F S1000x1000 .f32) :
    IVec S32x1024 32 :=
  draw (scores (keepTop (takePrior prior (nearest (distances x cb)))) u)

/-- The reference's result. -/
def result (x : FVec F S65536 .f32) (u0 u1 : FVec F S32x1024x1000 .f32) (cb : FVec F S1000x64 .f32) (p0 p1 : FVec F S1000x1000 .f32) :
    FVec F S2x65536 .f32 :=
  let t0 := tokens x u0 cb p0
  let t1 := tokens x u1 cb p1
  let best := least (errors (rows cb t0) (rows cb t1) x)
  stacked (wave cb (pick t0 best)) (wave cb (pick t1 best))

theorem after_pair (l₁ l₂ : List (HloOp τ sig (Elt F))) (V : Valuation τ sig (Elt F)) : after (l₁ ++ l₂) V = after l₂ (after l₁ V) := by
  induction l₁ generalizing V with
  | nil => rfl
  | cons op l ih => exact ih _

theorem line_eq (V : Valuation τ sig (Elt F)) :
    after line V = after stack2 (after stack1 (after outB (after pickB (after outA (after pickA (after best (after err (after rowsB (after rowsA (after drawB (after scoreB2 (after scoreB (after keepB (after takeB (after drawA (after scoreA (after keepA (after takeA (after near (after dist V)))))))))))))))))))) := by
  simp only [line, line0, line1, line2, after_pair]

set_option maxHeartbeats 4000000 in
/-- What the line leaves in the result buffer. -/
theorem line_result (V : Valuation τ sig (Elt F)) :
    after line V (Proc.devRef .tc main_v90) = result (V (Proc.devRef .tc main_arg0)) (V (Proc.devRef .tc main_arg1))
      (V (Proc.devRef .tc main_arg2)) (V (Proc.devRef .tc main_arg3)) (V (Proc.devRef .tc main_arg4)) (V (Proc.devRef .tc main_arg5)) := by
  rw [line_eq]
  simp (disch := decide) only [dist_read, near_read, takeA_read, keepA_read, scoreA_read, drawA_read, takeB_read, keepB_read, scoreB2_read, drawB_read, rowsA_read, rowsB_read, err_read, best_read, pickA_read, pickB_read, outA_read, outB_read, stack2_read,
    dist_keep, near_keep, takeA_keep, keepA_keep, scoreA_keep, drawA_keep, takeB_keep, keepB_keep, scoreB_keep, scoreB2_keep, drawB_keep, rowsA_keep, rowsB_keep, err_keep, best_keep, pickA_keep, outA_keep, pickB_keep, outB_keep, stack1_keep, stack2_keep]
  rfl

/-- The line leaves the arguments alone. -/
theorem line_arg (V : Valuation τ sig (Elt F)) {r : Ref sig .tc} (h : r ∈ [main_arg0, main_arg1, main_arg2, main_arg3, main_arg4, main_arg5]) :
    after line V (Proc.devRef .tc r) = V (Proc.devRef .tc r) := by
  rw [line_eq]
  simp only [List.mem_cons, List.not_mem_nil, or_false] at h
  rcases h with rfl | rfl | rfl | rfl | rfl | rfl <;>
  simp (disch := decide) only [dist_keep, near_keep, takeA_keep, keepA_keep, scoreA_keep, drawA_keep, takeB_keep, keepB_keep, scoreB_keep, scoreB2_keep, drawB_keep, rowsA_keep, rowsB_keep, err_keep, best_keep, pickA_keep, outA_keep, pickB_keep, outB_keep, stack1_keep, stack2_keep]

/-- The reference runs from any memory, leaves its arguments, ends with every semaphore at zero, and its result is `result` of its
    arguments. -/
theorem run_result (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v90) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  refine θ_run_mono (run m ρ) fun r hr => ⟨fun c => ⟨?_, ?_, ?_, ?_, ?_, ?_, ?_⟩, sem_eq_zero_of_no_sems rfl r.2⟩
  · exact (hr c main_v90).trans (line_result _)
  all_goals exact (hr c _).trans (line_arg _ (by decide))

end Cert.ReferenceIdeal.Line

end
-- ==== Proof.RefArg.lean ====
/- The reference's arg-min and arg-max in coordinates: the first index of the least, or greatest, entry. -/
module

public import proofs.«01_k».proof.Proof.RefStages
public import proofs.«01_k».proof.Proof.Spec

@[expose] public section

noncomputable section

namespace Cert.ReferenceIdeal.Line

open Idealize.ShloMosaic Idealize.ShloMosaic.ValueIdx Cert.Arg Cert.Rows
open Cert.ReferenceIdeal.Facts₀

/-- The arg-min step keeps the pair of lesser value, then of lesser index. -/
theorem argmin_keeps : Keeps (α := EReal) (reducer_argmin_f32_i32 (F := Ideal)) := by
  intro a b
  obtain ⟨a, i⟩ := a
  obtain ⟨b, j⟩ := b
  unfold Before
  rcases lt_trichotomy a b with h | h | h
  · have h1 : ¬ b < a := not_lt.2 h.le
    simp [reducer_argmin_f32_i32, Ideal.cmpf_def, Ideal.cmp, h, h1, Scalar.select, IntOp.ori, IntOp.andi, h.ne]
  · subst h
    by_cases hij : i.toInt < j.toInt
    · simp [reducer_argmin_f32_i32, Ideal.cmpf_def, Ideal.cmp, Scalar.select, IntOp.ori, IntOp.andi, IntOp.cmpi, BitVec.slt, hij, hij.le]
    · simp [reducer_argmin_f32_i32, Ideal.cmpf_def, Ideal.cmp, Scalar.select, IntOp.ori, IntOp.andi, IntOp.cmpi, BitVec.slt, hij, not_lt.1 hij]
  · have h1 : ¬ a < b := not_lt.2 h.le
    simp [reducer_argmin_f32_i32, Ideal.cmpf_def, Ideal.cmp, h, h1, Scalar.select, IntOp.ori, IntOp.andi, h.ne']

/-- The arg-max step keeps the pair of greater value, then of lesser index. -/
theorem argmax_keeps : Keeps (α := ERealᵒᵈ) (reducer_argmax_f32_i32 (F := Ideal)) := by
  intro a b
  obtain ⟨a, i⟩ := a
  obtain ⟨b, j⟩ := b
  have key : ∀ a b : EReal, ∀ q : EReal × BitVec 32, q = reducer_argmax_f32_i32 (F := Ideal) (a, i) (b, j) →
      (q = (a, i) ∨ q = (b, j)) ∧ (a < q.1 ∨ q.1 = a ∧ q.2.toInt ≤ i.toInt) ∧ (b < q.1 ∨ q.1 = b ∧ q.2.toInt ≤ j.toInt) := by
    rintro a b q rfl
    rcases lt_trichotomy a b with h | h | h
    · have h1 : ¬ b < a := not_lt.2 h.le
      simp [reducer_argmax_f32_i32, Ideal.cmpf_def, Ideal.cmp, h, h1, Scalar.select, IntOp.ori, IntOp.andi, h.ne]
    · subst h
      by_cases hij : i.toInt < j.toInt
      · simp [reducer_argmax_f32_i32, Ideal.cmpf_def, Ideal.cmp, Scalar.select, IntOp.ori, IntOp.andi, IntOp.cmpi, BitVec.slt, hij, hij.le]
      · simp [reducer_argmax_f32_i32, Ideal.cmpf_def, Ideal.cmp, Scalar.select, IntOp.ori, IntOp.andi, IntOp.cmpi, BitVec.slt, hij, not_lt.1 hij]
    · have h1 : ¬ a < b := not_lt.2 h.le
      simp [reducer_argmax_f32_i32, Ideal.cmpf_def, Ideal.cmp, h, h1, Scalar.select, IntOp.ori, IntOp.andi, h.ne']
  exact key a b _ rfl

section Fiber

variable {s t u : Shape} {axes : List (Fin s.rank)} {n : Nat} [NeZero n]

/-- The pairs an arg-reduction runs over at `j`, when the indices over `j` are `e k`. -/
theorem mem_fiber {α : Type} (x : s.Idx → α) (y : s.Idx → BitVec 32) (h : s.ReducesTo axes t) (j : t.Idx) (e : Fin n → s.Idx)
    (he : ∀ i, h.drop i = j ↔ ∃ k, i = e k) (hy : ∀ k, y (e k) = BitVec.ofNat 32 k.val) (p : α × BitVec 32) :
    p ∈ Host.argReduceFiber x y h j ↔ ∃ k : Fin n, p = (x (e k), BitVec.ofNat 32 k.val) := by
  unfold Host.argReduceFiber
  rw [List.mem_map]
  constructor
  · rintro ⟨q, hq, rfl⟩
    obtain ⟨k, hk⟩ := (he _).1 (of_decide_eq_true (List.mem_filter.1 hq).2)
    exact ⟨k, by rw [hk, hy]⟩
  · rintro ⟨k, rfl⟩
    refine ⟨s.rowMajor (e k), List.mem_filter.2 ⟨List.mem_finRange _, ?_⟩, ?_⟩
    · rw [Equiv.symm_apply_apply]
      exact decide_eq_true ((he _).2 ⟨k, rfl⟩)
    · rw [Equiv.symm_apply_apply, hy]

/-- An arg-min is the first index of the least entry. -/
theorem argmin_eq (hn : n < 2 ^ 31) (x : FVec Ideal s .f32) (y : IVec s 32) (h : s.ReducesTo axes t) (hu : 0 < u.numel) (j : t.Idx)
    (e : Fin n → s.Idx) (he : ∀ i, h.drop i = j ↔ ∃ k, i = e k) (hy : ∀ k, y (e k) = BitVec.ofNat 32 k.val) :
    (Host.argReduce reducer_argmin_f32_i32 x y (constant (F := Ideal) u .f32 0x7F800000#32) (constantI u 32 0#32) h hu j).2
      = BitVec.ofNat 32 (first fun k => x (e k)).val := by
  rw [Ideal.argReduce_eq_reduce2, Host.reduce2_eq_foldl_fiber]
  have h0 : constant (F := Ideal) u .f32 0x7F800000#32 (Shape.Idx.first hu) = (⊤ : EReal) := (constant_apply ..).trans top_f32
  rw [h0]
  exact foldl_first (α := EReal) hn argmin_keeps (fun k => x (e k)) _ (mem_fiber x y h j e he hy)

/-- An arg-max is the first index of the greatest entry. -/
theorem argmax_eq (hn : n < 2 ^ 31) (x : FVec Ideal s .f32) (y : IVec s 32) (h : s.ReducesTo axes t) (hu : 0 < u.numel) (j : t.Idx)
    (e : Fin n → s.Idx) (he : ∀ i, h.drop i = j ↔ ∃ k, i = e k) (hy : ∀ k, y (e k) = BitVec.ofNat 32 k.val) :
    (Host.argReduce reducer_argmax_f32_i32 x y (constant (F := Ideal) u .f32 0xFF800000#32) (constantI u 32 0#32) h hu j).2
      = BitVec.ofNat 32 (first (flip fun k => x (e k))).val := by
  rw [Ideal.argReduce_eq_reduce2, Host.reduce2_eq_foldl_fiber]
  have h0 : constant (F := Ideal) u .f32 0xFF800000#32 (Shape.Idx.first hu) = (⊥ : EReal) := (constant_apply ..).trans bot_f32
  rw [h0]
  exact foldl_first (α := ERealᵒᵈ) hn argmax_keeps (flip fun k => x (e k)) _ (mem_fiber x y h j e he hy)

end Fiber

/-- The indices over a row of a matrix. -/
theorem over_row (h : S1024x1000.ReducesTo [1] S1024) (i : Fin 1024) (q : S1024x1000.Idx) :
    h.drop q = ix1 i ↔ ∃ k : Fin 1000, q = ix2 i k := by
  have hd : (h.drop q 0).val = (q 0).val := h.drop_apply_val_of_eq q 0 0
  constructor
  · intro e
    have h0 : q 0 = i := Fin.ext (hd.symm.trans (congrArg (fun z => (z 0).val) e))
    exact ⟨q 1, (eq_ix2 q).trans (congrArg (fun z => ix2 z (q 1)) h0)⟩
  · rintro ⟨k, rfl⟩
    funext z
    have hz : z = 0 := Subsingleton.elim _ _
    subst hz
    exact Fin.ext hd

/-- The indices over a row of a stack of matrices. -/
theorem over_row3 (h : S32x1024x1000.ReducesTo [2] S32x1024) (i : Fin 32) (j : Fin 1024) (q : S32x1024x1000.Idx) :
    h.drop q = ix2 i j ↔ ∃ k : Fin 1000, q = ix3 i j k := by
  have hd : (h.drop q 0).val = (q 0).val := h.drop_apply_val_of_eq q 0 0
  have hd1 : (h.drop q 1).val = (q 1).val := h.drop_apply_val_of_eq q 1 1
  constructor
  · intro e
    have e0 : q 0 = i := Fin.ext (hd.symm.trans (congrArg (fun z => (z 0).val) e))
    have e1 : q 1 = j := Fin.ext (hd1.symm.trans (congrArg (fun z => (z 1).val) e))
    exact ⟨q 2, (eq_ix3 q).trans (congrArg₂ (fun y z => ix3 y z (q 2)) e0 e1)⟩
  · rintro ⟨k, rfl⟩
    funext z
    match z with
    | 0 => exact Fin.ext hd
    | 1 => exact Fin.ext hd1

/-- Every index of a list lies over the one scalar index. -/
theorem over_all {a : Nat} (h : (⟨1, ![a]⟩ : Shape).ReducesTo [0] ⟨0, ![]⟩) (j : (⟨0, ![]⟩ : Shape).Idx) (q : (⟨1, ![a]⟩ : Shape).Idx) :
    h.drop q = j ↔ ∃ k, q = ix1 k :=
  ⟨fun _ => ⟨q 0, eq_ix1 q⟩, fun _ => funext fun z => z.elim0⟩

end Cert.ReferenceIdeal.Line
-- ==== Proof.RefDraw.lean ====
/- The reference's nearest code, drawn tokens and best candidate, each the first index of a least or greatest entry. -/
module

public import proofs.«01_k».proof.Proof.RefArg
public import Idealize.ShloMosaic.Lib.IdealHost

@[expose] public section

noncomputable section

namespace Cert.ReferenceIdeal.Line

open Idealize.ShloMosaic Idealize.ShloMosaic.ValueIdx Cert.Arg Cert.Rows
open Cert.ReferenceIdeal.Facts₀

/-- The nearest code, from the distances. -/
theorem nearest_apply (d : FVec Ideal S1024x1000 .f32) (i : Fin 1024) :
    nearest d (ix1 i) = BitVec.ofNat 32 (first fun k : Fin 1000 => d (ix2 i k)).val := by
  have e : nearest d = fun j => (Host.argReduce reducer_argmin_f32_i32 d (iotaInDim S1024x1000 32 1) (constant (F := Ideal) S_ .f32 0x7F800000#32)
    (constantI S_ 32 0#32) reducesTo_S1024x1000_S1024_d1 h_S_ j).2 := rfl
  rw [e]
  exact argmin_eq (u := S_) (by norm_num) d (iotaInDim S1024x1000 32 1) reducesTo_S1024x1000_S1024_d1 h_S_ (ix1 i)
    (fun k : Fin 1000 => ix2 i k) (over_row _ i) fun k => iotaInDim_apply 32 1 _

/-- The token drawn, from the scores. -/
theorem draw_apply (s : FVec Ideal S32x1024x1000 .f32) (h : Fin 32) (i : Fin 1024) :
    draw s (ix2 h i) = BitVec.ofNat 32 (first (flip fun k : Fin 1000 => s (ix3 h i k))).val := by
  have e : draw s = fun j => (Host.argReduce reducer_argmax_f32_i32 s (iotaInDim S32x1024x1000 32 2) (constant (F := Ideal) S_ .f32 0xFF800000#32)
    (constantI S_ 32 0#32) reducesTo_S32x1024x1000_S32x1024_d2 h_S_ j).2 := rfl
  rw [e]
  exact argmax_eq (u := S_) (by norm_num) s (iotaInDim S32x1024x1000 32 2) reducesTo_S32x1024x1000_S32x1024_d2 h_S_ (ix2 h i)
    (fun k : Fin 1000 => ix3 h i k) (over_row3 _ h i) fun k => iotaInDim_apply 32 2 _

/-- The candidate of least error. -/
theorem least_apply (e : FVec Ideal S32 .f32) (j : S_.Idx) :
    least e j = BitVec.ofNat 32 (first fun k : Fin 32 => e (ix1 k)).val := by
  have h : least e = fun j => (Host.argReduce reducer_argmin_f32_i32 e (iotaInDim S32 32 0) (constant (F := Ideal) S_ .f32 0x7F800000#32)
    (constantI S_ 32 0#32) reducesTo_S32_S_d0 h_S_ j).2 := rfl
  rw [h]
  exact argmin_eq (u := S_) (by norm_num) e (iotaInDim S32 32 0) reducesTo_S32_S_d0 h_S_ j
    (fun k : Fin 32 => ix1 k) (over_all _ j) fun k => iotaInDim_apply 32 0 _

end Cert.ReferenceIdeal.Line
-- ==== Proof.RefTake.lean ====
/- The reference's takes in coordinates: at indices in range each reads the row its index names, since no index is negative, the
   range mask is set everywhere and nothing is clamped. -/
module

public import proofs.«01_k».proof.Proof.RefStages
public import proofs.«01_k».proof.Proof.Spec
public import Idealize.ShloMosaic.Lib.IdealHost
public import Idealize.ShloMosaic.Lib.ReduceAll
public import Idealize.ShloMosaic.Lib.Routing.Ops

@[expose] public section

noncomputable section

namespace Cert.ReferenceIdeal.Line

open Idealize.ShloMosaic Idealize.ShloMosaic.ValueIdx Cert.Arg Cert.Rows
open Cert.ReferenceIdeal.Facts₀

/-- A list of indices, those under zero moved up by the table's length, as a column. -/
def column (codes : IVec S1024 32) : IVec S1024x1 32 :=
  broadcastInDim S1024x1 ![0] bcast_S1024_S1024x1_0
    (select (cmpi .slt codes (broadcastInDim S1024 ![] bcast_S_S1024 (constantI S_ 32 0#32)))
      (addi codes (broadcastInDim S1024 ![] bcast_S_S1024 (constantI S_ 32 1000#32))) codes)

/-- Which indices of a column are in range. -/
def inRange (w : IVec S1024x1 32) : IVec S1024 1 :=
  Host.reduce IntOp.andi
    (andi (cmpi .sge w (broadcastInDim S1024x1 ![] bcast_S_S1024x1 (constantI S_ 32 0#32)))
      (cmpi .sle w (broadcastInDim S1024x1 ![0, 1] bcast_S1x1_S1024x1_0_1 (broadcastInDim S1x1 ![1] bcast_S1_S1x1_1 (constantI S1 32 999#32)))))
    (constantI S_ 1 1#1) reducesTo_S1024x1_S1024_d1 h_S_

/-- The same for an index per candidate and frame. -/
def column3 (tok : IVec S32x1024 32) : IVec S32x1024x1 32 :=
  broadcastInDim S32x1024x1 ![0, 1] bcast_S32x1024_S32x1024x1_0_1
    (select (cmpi .slt tok (broadcastInDim S32x1024 ![] bcast_S_S32x1024 (constantI S_ 32 0#32)))
      (addi tok (broadcastInDim S32x1024 ![] bcast_S_S32x1024 (constantI S_ 32 1000#32))) tok)

/-- Which of those are in range. -/
def inRange3 (w : IVec S32x1024x1 32) : IVec S32x1024 1 :=
  Host.reduce IntOp.andi
    (andi (cmpi .sge w (broadcastInDim S32x1024x1 ![] bcast_S_S32x1024x1 (constantI S_ 32 0#32)))
      (cmpi .sle w (broadcastInDim S32x1024x1 ![0, 1, 2] bcast_S1x1x1_S32x1024x1_0_1_2
        (broadcastInDim S1x1x1 ![2] bcast_S1_S1x1x1_2 (constantI S1 32 999#32)))))
    (constantI S_ 1 1#1) reducesTo_S32x1024x1_S32x1024_d2 h_S_

section Words

variable (k : Fin 1000)

theorem word_toInt : (BitVec.ofNat 32 k.val).toInt = k.val := toInt_ofNat (by have := k.isLt; omega)

theorem not_slt_zero : IntOp.cmpi .slt (BitVec.ofNat 32 k.val) 0#32 = 0#1 := by
  have h := word_toInt k
  simp only [IntOp.cmpi, BitVec.slt, h]
  rw [decide_eq_false (by simp)]
  rfl

theorem sge_zero : IntOp.cmpi .sge (BitVec.ofNat 32 k.val) 0#32 = 1#1 := by
  have h := word_toInt k
  simp [IntOp.cmpi, BitVec.sle, h]

theorem sle_last : IntOp.cmpi .sle (BitVec.ofNat 32 k.val) 999#32 = 1#1 := by
  have h := word_toInt k
  have h9 : (999#32 : BitVec 32).toInt = 999 := by decide
  have := k.isLt
  simp only [IntOp.cmpi, BitVec.sle, h, h9]
  rw [decide_eq_true (by omega)]
  rfl

end Words

/-- An index in range stays as it is. -/
theorem wrap_in_range {s : Shape} (w z n : IVec s 32) (i : s.Idx) (k : Fin 1000) (hz : z i = 0#32) (hk : w i = BitVec.ofNat 32 k.val) :
    select (cmpi .slt w z) (addi w n) w i = BitVec.ofNat 32 k.val := by
  have hc : cmpi .slt w z i = 0#1 := by
    show IntOp.cmpi .slt (w i) (z i) = 0#1
    rw [hz, hk]; exact not_slt_zero k
  rw [select_apply, hc, select_zero, hk]

theorem column_apply (codes : IVec S1024 32) (i : Fin 1024) (k : Fin 1000) (hk : codes (ix1 i) = BitVec.ofNat 32 k.val) :
    column codes (ix2 i (0 : Fin 1)) = BitVec.ofNat 32 k.val := by
  unfold column
  refine (broadcastInDim_apply _ _ _ _ (ix1 i) fun a => ?_).trans (wrap_in_range _ _ _ _ k ?_ hk)
  · obtain rfl : a = 0 := Subsingleton.elim _ _
    rfl
  · exact broadcastInDim_scalar_apply _ _ _

theorem column3_apply (tok : IVec S32x1024 32) (h : Fin 32) (i : Fin 1024) (k : Fin 1000) (hk : tok (ix2 h i) = BitVec.ofNat 32 k.val) :
    column3 tok (ix3 h i (0 : Fin 1)) = BitVec.ofNat 32 k.val := by
  unfold column3
  refine (broadcastInDim_apply _ _ _ _ (ix2 h i) fun a => ?_).trans (wrap_in_range _ _ _ _ k ?_ hk)
  · match a with
    | 0 => rfl
    | 1 => rfl
  · exact broadcastInDim_scalar_apply _ _ _

theorem in_range_word {s : Shape} (w z n : IVec s 32) (i : s.Idx) (k : Fin 1000) (hz : z i = 0#32) (hn : n i = 999#32)
    (hk : w i = BitVec.ofNat 32 k.val) : andi (cmpi .sge w z) (cmpi .sle w n) i = 1#1 := by
  show IntOp.andi (IntOp.cmpi .sge (w i) (z i)) (IntOp.cmpi .sle (w i) (n i)) = 1#1
  rw [hz, hn, hk, sge_zero, sle_last]
  rfl

/-- Every index in range, every mask bit is set. -/
theorem inRange_apply (w : IVec S1024x1 32) (t : Fin 1024 → Fin 1000) (hw : ∀ i, w (ix2 i (0 : Fin 1)) = BitVec.ofNat 32 (t i).val) (j : S1024.Idx) :
    inRange w j = 1#1 := by
  unfold inRange
  refine Host.reduce_andi_one _ _ _ _ _ rfl fun i => ?_
  have hi : i = ix2 (i 0) (0 : Fin 1) := (eq_ix2 i).trans (congrArg (ix2 (i 0)) (Subsingleton.elim (α := Fin 1) _ _))
  rw [hi]
  exact in_range_word w _ _ _ (t (i 0)) (broadcastInDim_scalar_apply _ _ _) rfl (hw _)

theorem inRange3_apply (w : IVec S32x1024x1 32) (t : Fin 32 → Fin 1024 → Fin 1000)
    (hw : ∀ h i, w (ix3 h i (0 : Fin 1)) = BitVec.ofNat 32 (t h i).val) (j : S32x1024.Idx) : inRange3 w j = 1#1 := by
  unfold inRange3
  refine Host.reduce_andi_one _ _ _ _ _ rfl fun i => ?_
  have hi : i = ix3 (i 0) (i 1) (0 : Fin 1) := (eq_ix3 i).trans (congrArg (ix3 (i 0) (i 1)) (Subsingleton.elim (α := Fin 1) _ _))
  rw [hi]
  exact in_range_word w _ _ _ (t (i 0) (i 1)) (broadcastInDim_scalar_apply _ _ _) rfl (hw _ _)

/-- The gather of a codebook row per candidate and frame. -/
theorem gather3_apply (cb : FVec Ideal S1000x64 .f32) (w : IVec S32x1024x1 32) (h : Fin 32) (i : Fin 1024) (c : Fin 64) (k : Fin 1000)
    (hk : w (ix3 h i (0 : Fin 1)) = BitVec.ofNat 32 k.val) :
    Host.gather gather_S1000x64_S32x1024x1_S32x1024x64_2_0_n_n_0_2_164 cb w (ix3 h i c) = cb (ix2 k c) := by
  unfold Host.gather
  refine congrArg cb (funext fun a => Fin.ext ?_)
  show GatherDims.start gather_S1000x64_S32x1024x1_S32x1024x64_2_0_n_n_0_2_164 (ix3 h i c) w a
    + GatherDims.batchCoord gather_S1000x64_S32x1024x1_S32x1024x64_2_0_n_n_0_2_164 (ix3 h i c) a
    + GatherDims.offCoord gather_S1000x64_S32x1024x1_S32x1024x64_2_0_n_n_0_2_164 (ix3 h i c) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000x64_S32x1024x1_S32x1024x64_2_0_n_n_0_2_164).startIndexMap from List.mem_singleton.mpr rfl)]
    have hsi : (gather_S1000x64_S32x1024x1_S32x1024x64_2_0_n_n_0_2_164).siIdx (ix3 h i c)
        ⟨List.idxOf (0 : Fin 2) (gather_S1000x64_S32x1024x1_S32x1024x64_2_0_n_n_0_2_164).startIndexMap,
          List.idxOf_lt_length_iff.2 (List.mem_singleton.mpr rfl)⟩ = ix3 h i (0 : Fin 1) := by
      funext b; refine Fin.ext ?_
      match b with
      | 0 => rfl
      | 1 => rfl
      | 2 => rfl
    rw [hsi, hk, word_toInt]
    show min (Int.toNat (k.val : Int)) (1000 - 1) = k.val
    have := k.isLt
    omega
  | 1 =>
    unfold GatherDims.start
    rw [dif_neg (show (1 : Fin 2) ∉ (gather_S1000x64_S32x1024x1_S32x1024x64_2_0_n_n_0_2_164).startIndexMap from by decide)]
    simp only [Nat.zero_add]
    rfl

/-- The prior's rows at codes in range. -/
theorem takePrior_apply (p : FVec Ideal S1000x1000 .f32) (codes : IVec S1024 32) (t : Fin 1024 → Fin 1000)
    (ht : ∀ i, codes (ix1 i) = BitVec.ofNat 32 (t i).val) (i : Fin 1024) (k : Fin 1000) :
    takePrior p codes (ix2 i k) = p (ix2 (t i) k) := by
  have e : takePrior p codes = select (broadcastInDim S1024x1000 ![0] bcast_S1024_S1024x1000_0 (inRange (column codes)))
      (Host.gather gather_S1000x1000_S1024x1_S1024x1000_1_0_n_n_0_1_11000 p (column codes))
      (broadcastInDim S1024x1000 ![] bcast_S_S1024x1000 (constant (F := Ideal) S_ .f32 0x7FC00000#32)) := rfl
  have hc := fun i => column_apply codes i (t i) (ht i)
  have hm : broadcastInDim S1024x1000 ![0] bcast_S1024_S1024x1000_0 (inRange (column codes)) (ix2 i k) = 1#1 :=
    (broadcastInDim_apply _ _ _ _ (ix1 i) fun a => by obtain rfl : a = 0 := Subsingleton.elim _ _; rfl).trans (inRange_apply _ t hc _)
  rw [e, select_apply, hm, select_one]
  exact Routing.gather_row _ rfl rfl rfl rfl rfl p (column codes) i k (t i) (hc i) (by norm_num)

/-- One candidate's waveform: the codebook's rows at its tokens, flattened. -/
theorem wave_apply (cb : FVec Ideal S1000x64 .f32) (codes : IVec S1024 32) (t : Fin 1024 → Fin 1000)
    (ht : ∀ i, codes (ix1 i) = BitVec.ofNat 32 (t i).val) (i : Fin 1024) (c : Fin 64) (j : Fin 65536) (hj : j.val = i.val * 64 + c.val) :
    wave cb codes (ix1 j) = cb (ix2 (t i) c) := by
  have e : wave cb codes = shapeCast S65536 (select (broadcastInDim S1024x64 ![0] bcast_S1024_S1024x64_0 (inRange (column codes)))
      (Host.gather gather_S1000x64_S1024x1_S1024x64_1_0_n_n_0_1_164 cb (column codes))
      (broadcastInDim S1024x64 ![] bcast_S_S1024x64 (constant (F := Ideal) S_ .f32 0x7FC00000#32))) shapeCasts_S1024x64_S65536 := rfl
  have hc := fun i => column_apply codes i (t i) (ht i)
  have hm : broadcastInDim S1024x64 ![0] bcast_S1024_S1024x64_0 (inRange (column codes)) (ix2 i c) = 1#1 :=
    (broadcastInDim_apply _ _ _ _ (ix1 i) fun a => by obtain rfl : a = 0 := Subsingleton.elim _ _; rfl).trans (inRange_apply _ t hc _)
  rw [e]
  refine (Cert.Shapes.cast_ab_flat _ _ i c j hj).trans ?_
  rw [select_apply, hm, select_one]
  exact Routing.gather_row _ rfl rfl rfl rfl rfl cb (column codes) i c (t i) (hc i) (by norm_num)

/-- The candidates' waveforms. -/
theorem rows_apply (cb : FVec Ideal S1000x64 .f32) (tok : IVec S32x1024 32) (t : Fin 32 → Fin 1024 → Fin 1000)
    (ht : ∀ h i, tok (ix2 h i) = BitVec.ofNat 32 (t h i).val) (h : Fin 32) (i : Fin 1024) (c : Fin 64) (j : Fin 65536)
    (hj : j.val = i.val * 64 + c.val) : rows cb tok (ix2 h j) = cb (ix2 (t h i) c) := by
  have e : rows cb tok = shapeCast S32x65536 (select (broadcastInDim S32x1024x64 ![0, 1] bcast_S32x1024_S32x1024x64_0_1 (inRange3 (column3 tok)))
      (Host.gather gather_S1000x64_S32x1024x1_S32x1024x64_2_0_n_n_0_2_164 cb (column3 tok))
      (broadcastInDim S32x1024x64 ![] bcast_S_S32x1024x64 (constant (F := Ideal) S_ .f32 0x7FC00000#32))) shapeCasts_S32x1024x64_S32x65536 := rfl
  have hc := fun h i => column3_apply tok h i (t h i) (ht h i)
  have hm : broadcastInDim S32x1024x64 ![0, 1] bcast_S32x1024_S32x1024x64_0_1 (inRange3 (column3 tok)) (ix3 h i c) = 1#1 :=
    (broadcastInDim_apply _ _ _ _ (ix2 h i) fun a => by
      match a with
      | 0 => rfl
      | 1 => rfl).trans (inRange3_apply _ t hc _)
  rw [e]
  refine (Cert.Shapes.cast_abc_flat _ _ rfl h i c j hj).trans ?_
  rw [select_apply, hm, select_one]
  exact gather3_apply cb (column3 tok) h i c (t h i) (hc h i)

end Cert.ReferenceIdeal.Line
-- ==== Proof.RefNum.lean ====
/- The reference's arithmetic stages in coordinates: distances, scores, errors. -/
module

public import proofs.«01_k».proof.Proof.RefStages
public import proofs.«01_k».proof.Proof.Spec
public import Idealize.ShloMosaic.Lib.IdealHost
public import Idealize.ShloMosaic.Lib.StackMember

@[expose] public section

noncomputable section

namespace Cert.ReferenceIdeal.Line

open Idealize.ShloMosaic Idealize.ShloMosaic.ValueIdx Cert.Arg Cert.Rows Cert.Shapes
open Cert.Spec hiding draw
open Cert.ReferenceIdeal.Facts₀

/-- The f32 pattern `0x40000000` is two. -/
theorem two_f32 : Ideal.ofBits .f32 0x40000000#32 = ((2 : ℝ) : EReal) := by
  simp [Ideal.ofBits, Ideal.ieee, -EReal.coe_mul]; norm_num

/-- The host's sum along a matrix's rows. -/
theorem host_row_sum {a b : Nat} (x : FVec Ideal ⟨2, ![a, b]⟩ .f32) (h' : (⟨2, ![a, b]⟩ : Shape).ReducesTo [1] ⟨1, ![a]⟩)
    (h : Shape.Reduces ⟨2, ![a, b]⟩ [1] ⟨1, ![a]⟩) (hu : 0 < S_.numel) (i : Fin a) :
    Host.reduceAdd x (constant (F := Ideal) S_ .f32 0x00000000#32) h' hu (ix1 i) = ∑ k : Fin b, x (ix2 i k) := by
  rw [hostReduceAdd_apply]
  refine (Ideal.hostReduceAdd_single h' h x _ (ix1 i)).trans ?_
  have h0 : constant (F := Ideal) S_ .f32 0x00000000#32 (Shape.Idx.first hu) = (0 : EReal) := (constant_apply ..).trans Ideal.ofBits_zero_f32
  rw [h0, zero_add]
  exact Finset.sum_congr rfl fun k _ => congrArg x (lift_row h i k)

/-- Doubling a sum doubles its terms. -/
theorem two_mul_sum {n : Nat} (f g : Fin n → EReal) :
    ∑ c, (Ideal.ofBits .f32 0x40000000#32 * f c) * g c = Ideal.ofBits .f32 0x40000000#32 * ∑ c, f c * g c := by
  rw [two_f32]
  have hd : ∀ s : Finset (Fin n), ∑ c ∈ s, (((2 : ℝ) : EReal) * f c) * g c = ((2 : ℝ) : EReal) * ∑ c ∈ s, f c * g c := by
    intro s
    induction s using Finset.induction_on with
    | empty => simp
    | insert a s ha ih =>
      rw [Finset.sum_insert ha, Finset.sum_insert ha, ih, mul_assoc,
        EReal.left_distrib_of_nonneg_of_ne_top (by exact_mod_cast (by norm_num : (0 : ℝ) ≤ 2)) (EReal.coe_ne_top _)]
  exact hd _

/-- The distances. -/
theorem distances_apply (x : FVec Ideal S65536 .f32) (cb : FVec Ideal S1000x64 .f32) (i : Fin 1024) (k : Fin 1000) :
    distances x cb (ix2 i k) = Spec.dist (framesOf x) (at2 cb) i k := by
  have hx : ∀ i c, shapeCast S1024x64 x shapeCasts_S65536_S1024x64 (ix2 i c) = framesOf x i c := fun i c => cast_flat_ab _ _ i c _ rfl
  unfold distances Spec.dist
  dsimp only
  rw [addf_apply, subf_apply]
  refine congrArg₂ (· + ·) (congrArg₂ (· - ·) ?_ ?_) ?_
  · refine (broadcastInDim_apply _ _ _ _ (ix2 i (0 : Fin 1)) fun a => by match a with | 0 => rfl | 1 => rfl).trans ?_
    refine (broadcastInDim_apply _ _ _ _ (ix1 i) fun a => by match a with | 0 => rfl).trans ?_
    refine (host_row_sum _ _ (by decide) _ i).trans (Finset.sum_congr rfl fun c _ => ?_)
    rw [mulf_apply, hx]
  · refine (StackMember.dotGeneral_plain_apply (m := 1024) (k := 64) (n := 1000) none _ _ i k).trans ?_
    rw [← two_mul_sum]
    refine Finset.sum_congr rfl fun c _ => ?_
    rw [mulf_apply, hx]
    refine congrArg₂ (· * ·) (congrArg (· * framesOf x i c) ?_) ?_
    · exact broadcastInDim_scalar_apply _ _ _
    · exact transpose_apply _ _ _ _ (ix2 k c) fun a => by match a with | 0 => rfl | 1 => rfl
  · refine (broadcastInDim_apply _ _ _ _ (ix2 (0 : Fin 1) k) fun a => by match a with | 0 => rfl | 1 => rfl).trans ?_
    refine (broadcastInDim_apply _ _ _ _ (ix1 k) fun a => by match a with | 0 => rfl).trans ?_
    refine (host_row_sum _ _ (by decide) _ k).trans (Finset.sum_congr rfl fun c _ => ?_)
    rw [mulf_apply]

/-- The scores. -/
theorem scores_apply (f : FVec Ideal S1024x1000 .f32) (u : FVec Ideal S32x1024x1000 .f32) (h : Fin 32) (i : Fin 1024) (k : Fin 1000) :
    scores f u (ix3 h i k) = score (f (ix2 i k)) (u (ix3 h i k)) := by
  unfold scores score
  dsimp only
  rw [addf_apply]
  refine congrArg₂ (· + ·) ?_ ?_
  · refine (broadcastInDim_apply _ _ _ _ (ix3 (0 : Fin 1) i k) fun a => by match a with | 0 => rfl | 1 => rfl | 2 => rfl).trans ?_
    exact broadcastInDim_apply _ _ _ _ (ix2 i k) fun a => by match a with | 0 => rfl | 1 => rfl
  · rfl

/-- A sum over samples is a sum over frames of sums over the frame's samples. -/
theorem sum_samples (f : Fin 65536 → EReal) (g : Fin 1024 → Fin 64 → EReal)
    (h : ∀ i c (j : Fin 65536), j.val = i.val * 64 + c.val → f j = g i c) : ∑ j, f j = ∑ i, ∑ c, g i c := by
  rw [← Fintype.sum_prod_type' (f := g)]
  refine (Fintype.sum_equiv (finProdFinEquiv (m := 1024) (n := 64)) _ _ fun p => (h p.1 p.2 _ ?_).symm).symm
  show p.2.val + 64 * p.1.val = _
  omega

theorem host_sqrt_apply {s : Shape} (a : FVec Ideal s .f32) (i : s.Idx) : Host.sqrt a i = Ideal.sqrt (a i) := rfl

/-- The errors' roots. -/
theorem errors_apply (r0 r1 : FVec Ideal S32x65536 .f32) (x : FVec Ideal S65536 .f32) (cb : Codes) (t0 t1 : Fin 32 → Fin 1024 → Fin 1000)
    (h0 : ∀ h i c (j : Fin 65536), j.val = i.val * 64 + c.val → r0 (ix2 h j) = cb (t0 h i) c)
    (h1 : ∀ h i c (j : Fin 65536), j.val = i.val * 64 + c.val → r1 (ix2 h j) = cb (t1 h i) c) (h : Fin 32) :
    errors r0 r1 x (ix1 h) = Ideal.sqrt (Spec.err cb (t0 h) (t1 h) (framesOf x)) := by
  unfold errors Spec.err
  dsimp only
  rw [host_sqrt_apply]
  refine congrArg Ideal.sqrt ?_
  refine (host_row_sum _ _ (by decide) _ h).trans (sum_samples _ _ fun i c j hj => ?_)
  have hx : broadcastInDim S32x65536 ![0, 1] bcast_S1x65536_S32x65536_0_1 (broadcastInDim S1x65536 ![1] bcast_S65536_S1x65536_1 x) (ix2 h j)
      = framesOf x i c :=
    ((broadcastInDim_apply _ _ _ _ (ix2 (0 : Fin 1) j) fun a => by match a with | 0 => rfl | 1 => rfl).trans
      (broadcastInDim_apply _ _ _ _ (ix1 j) fun a => by match a with | 0 => rfl)).trans
      (congrArg (fun z => x (ix1 z)) (Fin.ext hj))
  rw [mulf_apply, subf_apply, addf_apply, mulf_apply, mulf_apply, hx, h0 h i c j hj, h1 h i c j hj]
  rfl

theorem mul_self_nonneg (x : EReal) : 0 ≤ x * x := by
  rcases le_total 0 x with h | h
  · exact mul_nonneg h h
  · have h' : 0 ≤ -x := EReal.neg_nonneg.2 h
    have := mul_nonneg h' h'
    rwa [neg_mul_neg] at this

theorem err_nonneg (cb : Codes) (t0 t1 : Fin 1024 → Fin 1000) (x : Frames) : 0 ≤ Spec.err cb t0 t1 x :=
  Finset.sum_nonneg fun _ _ => Finset.sum_nonneg fun _ _ => mul_self_nonneg _

theorem sqrt_top : Ideal.sqrt ⊤ = ⊤ := rfl

theorem sqrt_coe (r : ℝ) (h : ¬ r < 0) : Ideal.sqrt (r : EReal) = (Real.sqrt r : EReal) := if_neg h

/-- On nonnegative values the root keeps the order. -/
theorem sqrt_le_iff (a b : EReal) (ha : 0 ≤ a) (hb : 0 ≤ b) : Ideal.sqrt a ≤ Ideal.sqrt b ↔ a ≤ b := by
  induction a using EReal.rec with
  | bot => exact absurd ha (by simp)
  | top =>
    induction b using EReal.rec with
    | bot => exact absurd hb (by simp)
    | top => simp
    | coe r =>
      have hr : ¬ r < 0 := not_lt.2 (by exact_mod_cast hb)
      rw [sqrt_top, sqrt_coe r hr]
      simp
  | coe q =>
    have hq : ¬ q < 0 := not_lt.2 (by exact_mod_cast ha)
    induction b using EReal.rec with
    | bot => exact absurd hb (by simp)
    | top =>
      rw [sqrt_top, sqrt_coe q hq]
      simp
    | coe r =>
      have hr : ¬ r < 0 := not_lt.2 (by exact_mod_cast hb)
      rw [sqrt_coe q hq, sqrt_coe r hr, EReal.coe_le_coe_iff, EReal.coe_le_coe_iff]
      exact Real.sqrt_le_sqrt_iff (not_lt.1 hr)

/-- The least root is where the least error is. -/
theorem first_sqrt (e : Fin 32 → EReal) (he : ∀ h, 0 ≤ e h) : first (fun h => Ideal.sqrt (e h)) = first e :=
  first_eq_of_le_iff _ _ fun i j => sqrt_le_iff _ _ (he i) (he j)

end Cert.ReferenceIdeal.Line
-- ==== Proof.TopK.lean ====
/- The 64th greatest entry of a row: what it is, that it is one number only, and that the program's top-k writes it in its last
   column. -/
module

public import proofs.«01_k».proof.Proof.Spec
public import Idealize.ShloMosaic.Lib.SortFacts

@[expose] public section

noncomputable section

namespace Cert.Spec

open Idealize.ShloMosaic Idealize.ShloMosaic.ValueIdx Cert.Arg Cert.Rows

/-- `θ` is the 64th greatest entry of `l`: an entry, at least 64 entries are at it or over, and fewer than 64 are over it. -/
def IsKth (θ : EReal) (l : Row) : Prop :=
  (∃ k, l k = θ) ∧ 64 ≤ count l θ ∧ (Finset.univ.filter fun k => θ < l k).card < 64

/-- No number over the 64th greatest entry has 64 entries at it or over. -/
theorem IsKth.le_of_count {θ a : EReal} {l : Row} (h : IsKth θ l) (ha : 64 ≤ count l a) : a ≤ θ := by
  by_contra hc
  have : count l a ≤ (Finset.univ.filter fun k => θ < l k).card :=
    Finset.card_le_card fun k hk => Finset.mem_filter.2 ⟨Finset.mem_univ _, (not_le.1 hc).trans_le (Finset.mem_filter.1 hk).2⟩
  have := h.2.2
  omega

/-- A number that fewer than 64 entries reach is over the 64th greatest. -/
theorem IsKth.lt_of_count {θ b : EReal} {l : Row} (h : IsKth θ l) (hb : count l b < 64) : θ < b := by
  by_contra hc
  have : count l θ ≤ count l b :=
    Finset.card_le_card fun k hk => Finset.mem_filter.2 ⟨Finset.mem_univ _, (not_lt.1 hc).trans (Finset.mem_filter.1 hk).2⟩
  have := h.2.1
  omega

/-- A row has one 64th greatest entry. -/
theorem IsKth.eq {θ η : EReal} {l : Row} (h : IsKth θ l) (g : IsKth η l) : θ = η :=
  le_antisymm (g.le_of_count h.2.1) (h.le_of_count g.2.1)

/-- In a row put in descending order, the entry at place 63 is the 64th greatest. -/
theorem isKth_of_sorted (l : Row) (σ : Fin 1000 → Fin 1000) (hinj : Function.Injective σ) (hsur : Function.Surjective σ)
    (hσ : ∀ i j, i < j → l (σ j) ≤ l (σ i)) (r : Fin 1000) (hr : r.val = 63) : IsKth (l (σ r)) l := by
  refine ⟨⟨_, rfl⟩, ?_, ?_⟩
  · have hc : ((Finset.univ.filter fun j : Fin 1000 => j ≤ r).image σ).card = 64 := by
      rw [Finset.card_image_of_injective _ hinj, Finset.filter_ge_eq_Iic, Fin.card_Iic, hr]
    rw [← hc]
    refine Finset.card_le_card fun k hk => ?_
    obtain ⟨j, hj, rfl⟩ := Finset.mem_image.1 hk
    refine Finset.mem_filter.2 ⟨Finset.mem_univ _, ?_⟩
    rcases lt_or_eq_of_le (Finset.mem_filter.1 hj).2 with h | h
    · exact hσ _ _ h
    · rw [h]
  · have hc : ((Finset.univ.filter fun j : Fin 1000 => j < r).image σ).card = 63 := by
      rw [Finset.card_image_of_injective _ hinj, Finset.filter_gt_eq_Iio, Fin.card_Iio, hr]
    refine lt_of_le_of_lt (Finset.card_le_card fun k hk => ?_) (hc.trans_lt (by norm_num))
    obtain ⟨j, rfl⟩ := hsur k
    refine Finset.mem_image.2 ⟨j, Finset.mem_filter.2 ⟨Finset.mem_univ _, ?_⟩, rfl⟩
    have h := (Finset.mem_filter.1 hk).2
    by_contra hc
    rcases lt_or_eq_of_le (not_lt.1 hc) with h' | h'
    · exact absurd h (not_lt.2 (hσ _ _ h'))
    · rw [h'] at h
      exact lt_irrefl _ h

/-- A sort of a matrix along its rows, in coordinates. -/
theorem sort2_row {m n : Nat} {α β : Type} (cmp : α × β → α × β → BitVec 1) (x : (⟨2, ![m, n]⟩ : Shape).Idx → α)
    (y : (⟨2, ![m, n]⟩ : Shape).Idx → β) (i : Fin m) (k : Fin n) :
    (Host.sort2 ⟨2, ![m, n]⟩ 1 cmp x y).1 (ix2 i k)
      = x (ix2 i (sortedFrom (fun a b => cmp (x (ix2 i a), y (ix2 i a)) (x (ix2 i b), y (ix2 i b)) == 1#1) k)) := by
  have hd : 1 < (⟨2, ![m, n]⟩ : Shape).rank := Nat.lt_succ_self 1
  have ha : ∀ c : Fin n, Shape.Idx.along (s := ⟨2, ![m, n]⟩) (ix2 i k) ⟨1, hd⟩ c = ix2 i c := by
    intro c
    funext a
    match a with | 0 => rfl | 1 => rfl
  unfold Host.sort2
  rw [dif_pos hd]
  refine (congrArg x (ha _)).trans ?_
  refine congrArg (fun b => x (ix2 i (sortedFrom b k))) ?_
  funext a b
  rw [ha a, ha b]

/-- The position along row `i` that comes to place `j` when the rows are sorted, greater first. -/
def place {m n : Nat} (x : FVec Ideal ⟨2, ![m, n]⟩ .f32) (i : Fin m) : Fin n → Fin n :=
  sortedFrom fun k k' => (FloatOps.cmpfTotal .gt (x (ix2 i k)) (x (ix2 i k')) : BitVec 1) == 1#1

theorem place_sorted {m n : Nat} (x : FVec Ideal ⟨2, ![m, n]⟩ .f32) (i : Fin m) (j j' : Fin n) (h : j < j') :
    x (ix2 i (place x i j')) ≤ x (ix2 i (place x i j)) := by
  have hb : (fun k k' : Fin n => (FloatOps.cmpfTotal .gt (x (ix2 i k)) (x (ix2 i k')) : BitVec 1) == 1#1)
      = fun k k' => decide (x (ix2 i k') < x (ix2 i k)) := by
    funext k k'
    by_cases hk : x (ix2 i k') < x (ix2 i k) <;> simp [Ideal.cmpfTotal_def, Ideal.cmp, CmpDirection.ordered, hk]
  have := sortedFrom_noInversion (fun k k' : Fin n => decide (x (ix2 i k') < x (ix2 i k)))
    (fun k k' => decide (x (ix2 i k') < x (ix2 i k)))
    (fun a b hab => by simpa using (of_decide_eq_true hab).le) (fun a b hab => hab)
    (fun a b c hab hbc => by
      simp only [decide_eq_false_iff_not, not_lt] at *
      exact hab.trans hbc) j j' h
  unfold place
  rw [hb]
  simpa using this

/-- A top-k of a matrix in coordinates. -/
theorem topK_place {m n r : Nat} (x : FVec Ideal ⟨2, ![m, n]⟩ .f32) (h : (⟨2, ![m, n]⟩ : Shape).Slices (fun _ => 0) ⟨2, ![m, r]⟩)
    (i : Fin m) (k : Fin r) (k' : Fin n) (hk : k'.val = k.val) :
    (Host.topK ⟨2, ![m, r]⟩ 1 (FloatOps.cmpfTotal .gt) x h).1 (ix2 i k) = x (ix2 i (place x i k')) := by
  obtain ⟨y, hy⟩ : ∃ y : IVec ⟨2, ![m, n]⟩ 32, (Host.topK ⟨2, ![m, r]⟩ 1 (FloatOps.cmpfTotal (F := Ideal) (φ := .f32) .gt) x h).1
      = extractStridedSlice ⟨2, ![m, r]⟩ (fun _ => 0)
        (Host.sort2 ⟨2, ![m, n]⟩ 1 (fun l r => FloatOps.cmpfTotal (F := Ideal) (φ := .f32) .gt l.1 r.1) x y).1 h :=
    ⟨fun i => if hd : 1 < (⟨2, ![m, n]⟩ : Shape).rank then iotaInDim ⟨2, ![m, n]⟩ 32 ⟨1, hd⟩ i else 0#32, rfl⟩
  rw [hy]
  refine (extractStridedSlice_apply (s := ⟨2, ![m, n]⟩) (t := ⟨2, ![m, r]⟩) (fun _ => 0) _ h (ix2 i k) (ix2 i k') fun a => ?_).trans (sort2_row _ x _ i k')
  match a with
  | 0 => exact (Nat.zero_add _).symm
  | 1 => exact hk.trans (Nat.zero_add _).symm

/-- The program's top-k: in each row, the last of its 64 columns holds the row's 64th greatest entry. -/
theorem topK_apply {m : Nat} (x : FVec Ideal ⟨2, ![m, 1000]⟩ .f32)
    (h : (⟨2, ![m, 1000]⟩ : Shape).Slices (fun _ => 0) ⟨2, ![m, 64]⟩) (i : Fin m) (r : Fin 64) (hr : r.val = 63) :
    IsKth ((Host.topK ⟨2, ![m, 64]⟩ 1 (FloatOps.cmpfTotal .gt) x h).1 (ix2 i r)) (fun k => x (ix2 i k)) := by
  rw [topK_place x h i r ⟨r.val, by omega⟩ rfl]
  exact isKth_of_sorted (fun k => x (ix2 i k)) (place x i) (sortedFrom_injective _) (sortedFrom_surjective _) (place_sorted x i) _ hr

end Cert.Spec
-- ==== Proof.RefKeep.lean ====
/- The reference's filter in coordinates, the candidate it picks, and its two stacked waveforms. -/
module

public import proofs.«01_k».proof.Proof.RefStages
public import proofs.«01_k».proof.Proof.TopK
public import Idealize.ShloMosaic.Lib.IdealHost
public import Idealize.ShloMosaic.Lib.DynamicIndex

@[expose] public section

noncomputable section

namespace Cert.Spec

open Idealize.ShloMosaic Idealize.ShloMosaic.ValueIdx

/-- Every row has a 64th greatest entry. -/
theorem exists_kth (l : Row) : ∃ θ, IsKth θ l :=
  ⟨_, topK_apply (m := 1) (fun j => l (j 1)) ⟨rfl, fun a => by match a with | 0 => decide | 1 => decide⟩ 0 63 rfl⟩

/-- The 64th greatest entry of a row. -/
def kth (l : Row) : EReal := (exists_kth l).choose

theorem isKth_kth (l : Row) : IsKth (kth l) l := (exists_kth l).choose_spec

/-- The entries of a row at its 64th greatest or over; minus infinity in place of the others. -/
def top (l : Row) : Row := keep (kth l) l

end Cert.Spec

namespace Cert.ReferenceIdeal.Line

open Idealize.ShloMosaic Idealize.ShloMosaic.ValueIdx Cert.Arg Cert.Rows
open Cert.Spec hiding draw
open Cert.ReferenceIdeal.Facts₀

/-- A quotient by one. -/
theorem over_one (l : FVec Ideal S1024x1000 .f32) :
    Host.divf l (broadcastInDim S1024x1000 ![] bcast_S_S1024x1000 (constant S_ .f32 0x3F800000#32)) = l := by
  funext j
  rw [hostDivf_apply, broadcastInDim_scalar_apply, constant_apply, Ideal.ofBits_one_f32]
  simp [Ideal.div]

/-- The filter with the threshold column named. -/
theorem keepTop_eq (l : FVec Ideal S1024x1000 .f32) (v : FVec Ideal S1024x64 .f32)
    (hv : (Host.topK S1024x64 1 (FloatOps.cmpfTotal .gt) l sliceFits_S1024x1000_S1024x64).1 = v) :
    keepTop l = select (cmpf .oge l (broadcastInDim S1024x1000 ![0, 1] bcast_S1024x1_S1024x1000_0_1
        (extractStridedSlice S1024x1 ![0, 63] v slices_S1024x64_S1024x1_0_63))) l
      (broadcastInDim S1024x1000 ![] bcast_S_S1024x1000 (constant S_ .f32 0xFF800000#32)) := by
  have h := over_one l
  unfold keepTop
  dsimp only
  rw [h, hv]
  rfl

/-- The filter: a row's entries at its 64th greatest or over. -/
theorem keepTop_apply (l : FVec Ideal S1024x1000 .f32) (i : Fin 1024) (k : Fin 1000) :
    keepTop l (ix2 i k) = top (fun c => l (ix2 i c)) k := by
  have hk := topK_apply l sliceFits_S1024x1000_S1024x64 i 63 rfl
  generalize hv : (Host.topK S1024x64 1 (FloatOps.cmpfTotal .gt) l sliceFits_S1024x1000_S1024x64).1 = v at hk
  rw [keepTop_eq l v hv, select_apply, cmpf_apply, Ideal.cmpf_def, broadcastInDim_scalar_apply, constant_apply, bot_f32]
  rw [broadcastInDim_apply _ bcast_S1024x1_S1024x1000_0_1 _ (ix2 i k) (ix2 i 0) (fun a => by match a with | 0 => rfl | 1 => rfl),
    extractStridedSlice_apply _ v slices_S1024x64_S1024x1_0_63 (ix2 i 0) (ix2 i 63) (fun a => by match a with | 0 => exact (Nat.zero_add _).symm | 1 => rfl)]
  have e := (isKth_kth _).eq hk
  unfold top keep
  rw [e]
  exact select_decide _ _ _

/-- The tokens of the candidate at an index in range. -/
theorem pick_apply (tok : IVec S32x1024 32) (best : IVec S_ 32) (b : Fin 32) (hb : ∀ j, best j = BitVec.ofNat 32 b.val) (i : Fin 1024) :
    pick tok best (ix1 i) = tok (ix2 b i) := by
  have h0 : ∀ (j : S_.Idx), select (cmpi .slt best (constantI S_ 32 0#32)) (addi best (constantI S_ 32 32#32)) best j = BitVec.ofNat 32 b.val := by
    intro j
    rw [select_slt_zero_of_nonneg _ _ _ _ (by rw [hb, toInt_ofNat_of_lt (by omega)]; omega), hb]
  have h1 : ∀ (j : S_.Idx), select (cmpi .slt (constantI S_ 32 0#32) (constantI S_ 32 0#32)) (addi (constantI S_ 32 0#32) (constantI S_ 32 1024#32))
      (constantI S_ 32 0#32) j = 0#32 := fun j => rfl
  unfold pick
  dsimp only
  rw [Cert.Shapes.cast_1a_a]
  rw [Host.dynamicSlice_eq_extractStridedSlice S1x1024 tok _ ![b.val, 0] sliceFits_S32x1024_S1x1024
    ⟨rfl, fun a => by match a with | 0 => exact Nat.succ_le_of_lt b.isLt | 1 => exact le_refl _⟩
    (fun a => by
      match a with
      | 0 => exact (congrArg BitVec.toInt (h0 _)).trans (toInt_ofNat_of_lt (by omega))
      | 1 => exact (congrArg BitVec.toInt (h1 (Shape.Idx.first h_S_))).trans rfl)]
  exact extractStridedSlice_apply _ tok _ (ix2 0 i) (ix2 b i) (fun a => by match a with | 0 => rfl | 1 => exact (Nat.zero_add _).symm)

/-- The two waveforms stacked. -/
theorem stacked_apply (a b : FVec Ideal S65536 .f32) (q : Fin 2) (j : Fin 65536) :
    stacked a b (ix2 q j) = if q = 0 then a (ix1 j) else b (ix1 j) := by
  have hrow : ∀ v : FVec Ideal S65536 .f32, broadcastInDim S1x65536 ![1] bcast_S65536_S1x65536_1 v (ix2 0 j) = v (ix1 j) := fun v =>
    broadcastInDim_apply _ _ v (ix2 0 j) (ix1 j) (fun a => by match a with | 0 => rfl)
  unfold stacked
  dsimp only
  match q with
  | 0 =>
    rw [if_pos rfl]
    exact (concatenate_pair_apply_left (t := S2x65536) (s₁ := S1x65536) (s₂ := S1x65536) 0 _ _ _ (ix2 0 j) rfl (ix2 (0 : Fin 1) j) (fun b => by match b with | 0 => rfl | 1 => rfl)).trans (hrow a)
  | 1 =>
    rw [if_neg (by decide)]
    exact (concatenate_pair_apply_right (t := S2x65536) (s₁ := S1x65536) (s₂ := S1x65536) 0 _ _ _ (ix2 1 j) rfl rfl (ix2 (0 : Fin 1) j) (fun b hb => by match b, hb with | 1, _ => rfl) rfl).trans (hrow b)

end Cert.ReferenceIdeal.Line
-- ==== Proof.RefResult.lean ====
/- The reference's result in coordinates. -/
module

public import proofs.«01_k».proof.Proof.RefValue
public import proofs.«01_k».proof.Proof.RefDraw
public import proofs.«01_k».proof.Proof.RefTake
public import proofs.«01_k».proof.Proof.RefNum
public import proofs.«01_k».proof.Proof.RefKeep

@[expose] public section

noncomputable section

namespace Cert.ReferenceIdeal.Line

open Idealize.ShloMosaic Idealize.ShloMosaic.ValueIdx Cert.Arg Cert.Rows
open Cert.Spec (Frames Codes Row at2 at3 framesOf top token bestOf answer code)
open Cert.ReferenceIdeal.Facts₀

/-- The nearest codes. -/
theorem codes_apply (x : FVec Ideal S65536 .f32) (cb : FVec Ideal S1000x64 .f32) (i : Fin 1024) :
    nearest (distances x cb) (ix1 i) = BitVec.ofNat 32 (code (framesOf x) (at2 cb) i).val := by
  rw [nearest_apply]
  have h : (fun k => distances x cb (ix2 i k)) = Spec.dist (framesOf x) (at2 cb) i := funext fun k => distances_apply x cb i k
  rw [h]
  rfl

/-- The tokens drawn from one prior. -/
theorem tokens_apply (x : FVec Ideal S65536 .f32) (u : FVec Ideal S32x1024x1000 .f32) (cb : FVec Ideal S1000x64 .f32)
    (p : FVec Ideal S1000x1000 .f32) (h : Fin 32) (i : Fin 1024) :
    tokens x u cb p (ix2 h i) = BitVec.ofNat 32 (token top (framesOf x) (at2 cb) (at2 p) (at3 u) h i).val := by
  unfold tokens
  rw [draw_apply]
  have e : (fun c => takePrior p (nearest (distances x cb)) (ix2 i c)) = at2 p (code (framesOf x) (at2 cb) i) :=
    funext fun c => takePrior_apply p _ (fun i => code (framesOf x) (at2 cb) i) (codes_apply x cb) i c
  have hs : (fun k => scores (keepTop (takePrior p (nearest (distances x cb)))) u (ix3 h i k))
      = fun k => Spec.score (top (at2 p (code (framesOf x) (at2 cb) i)) k) (at3 u h i k) :=
    funext fun k => by rw [scores_apply, keepTop_apply, e]
  rw [hs]
  rfl

/-- The best candidate. -/
theorem least_errors (x : FVec Ideal S65536 .f32) (cb : FVec Ideal S1000x64 .f32) (k0 k1 : IVec S32x1024 32)
    (t0 t1 : Fin 32 → Fin 1024 → Fin 1000) (h0 : ∀ h i, k0 (ix2 h i) = BitVec.ofNat 32 (t0 h i).val)
    (h1 : ∀ h i, k1 (ix2 h i) = BitVec.ofNat 32 (t1 h i).val) (j : S_.Idx) :
    least (errors (rows cb k0) (rows cb k1) x) j = BitVec.ofNat 32 (bestOf (framesOf x) (at2 cb) t0 t1).val := by
  rw [least_apply]
  have e : (fun h => errors (rows cb k0) (rows cb k1) x (ix1 h)) = fun h => Ideal.sqrt (Spec.err (at2 cb) (t0 h) (t1 h) (framesOf x)) :=
    funext fun h => errors_apply _ _ x (at2 cb) t0 t1 (fun h i c j hj => rows_apply cb k0 t0 h0 h i c j hj)
      (fun h i c j hj => rows_apply cb k1 t1 h1 h i c j hj) h
  rw [e, first_sqrt _ fun h => err_nonneg _ _ _ _]
  rfl

/-- The reference's result in coordinates. -/
theorem result_apply (x : FVec Ideal S65536 .f32) (u0 u1 : FVec Ideal S32x1024x1000 .f32) (cb : FVec Ideal S1000x64 .f32)
    (p0 p1 : FVec Ideal S1000x1000 .f32) (q : Fin 2) (i : Fin 1024) (k : Fin 64) (j : Fin 65536) (hj : j.val = i.val * 64 + k.val) :
    result x u0 u1 cb p0 p1 (ix2 q j) = answer top (framesOf x) (at2 cb) (at2 p0) (at2 p1) (at3 u0) (at3 u1) q i k := by
  have ha := tokens_apply x u0 cb p0
  have hb := tokens_apply x u1 cb p1
  have hl := least_errors x cb _ _ _ _ ha hb
  have hp := fun i => (pick_apply _ _ _ hl i).trans (ha _ i)
  have hq := fun i => (pick_apply _ _ _ hl i).trans (hb _ i)
  unfold result
  rw [stacked_apply, wave_apply cb _ _ hp i k j hj, wave_apply cb _ _ hq i k j hj]
  unfold answer
  split_ifs <;> rfl

end Cert.ReferenceIdeal.Line
-- ==== Proof.PreFacts.lean ====
/- The shape facts that the precondition `gap` names. -/
module

public import proofs.«01_k».proof.Pre_gap

@[expose] public section

namespace Cert.Pre_gap

open Idealize.ShloMosaic

/-- Every shape relation that the operations of `gap` take holds. -/
instance facts : Facts where
  sliceFits_S1000x1000_S1000x64 := by decide
  slices_S1000x64_S1000x1_0_63 := by decide
  reducesTo_S1000x1000_S1000_d1 := by decide
  h_S_ := by decide
  bcast_S1000_S1000x1_0 := by decide
  bcast_S_S1000x1 := by decide
  bcast_S_S1000x1000 := by decide
  bcast_S1000x1_S1000x1000_0_1 := by decide

end Cert.Pre_gap
-- ==== Proof.Bisect.lean ====
/- The search for the 64th greatest entry: where the row is finite and no entry lies closer under that entry than the width of the
   bracket after 48 halvings, the entries at the bracket's lower end or over are those at the 64th greatest or over. -/
module

public import proofs.«01_k».proof.Proof.TopK

@[expose] public section

noncomputable section

namespace Cert.Spec

open Idealize.ShloMosaic Cert.Arg Cert.Rows

theorem half_real : Ideal.ofBits .f32 0x3F000000#32 = (((1 : ℝ) / 2 : ℝ) : EReal) := by
  simp [Ideal.ofBits, Ideal.ieee, -EReal.coe_mul]
  norm_num

theorem one_real : Ideal.ofBits .f32 0x3F800000#32 = ((1 : ℝ) : EReal) := by
  simp [Ideal.ofBits, Ideal.ieee, -EReal.coe_mul]
  norm_num

theorem two_real : Ideal.ofBits .f32 0x40000000#32 = ((2 : ℝ) : EReal) := by
  simp [Ideal.ofBits, Ideal.ieee, -EReal.coe_mul]
  norm_num

theorem width_real : Ideal.ofBits .f32 0x27800000#32 = (((1 : ℝ) / 2 ^ 48 : ℝ) : EReal) := by
  simp [Ideal.ofBits, Ideal.ieee, -EReal.coe_mul]
  norm_num

/-- The width of the bracket after 48 halvings. -/
def tol (l : Row) : EReal :=
  (l (first (flip l)) - l (first l) + Ideal.ofBits .f32 0x40000000#32) * Ideal.ofBits .f32 0x27800000#32

/-- A bracket `(a, b)` of reals of width `d` around the 64th greatest entry. -/
def Around (l : Row) (d : ℝ) (p : EReal × EReal) : Prop :=
  ∃ a b : ℝ, p = ((a : EReal), (b : EReal)) ∧ b - a = d ∧ 64 ≤ count l a ∧ count l b < 64

/-- A halving keeps a bracket around the entry and halves its width. -/
theorem halve_around {l : Row} {d : ℝ} {p : EReal × EReal} (h : Around l d p) : Around l (d / 2) (halve l p) := by
  obtain ⟨a, b, rfl, hd, ha, hb⟩ := h
  have hm : Ideal.ofBits .f32 0x3F000000#32 * ((a : EReal) + (b : EReal)) = (((a + b) / 2 : ℝ) : EReal) := by
    rw [half_real, ← EReal.coe_add, ← EReal.coe_mul]
    congr 1
    ring
  unfold halve
  dsimp only
  rw [hm]
  split_ifs with hc
  · exact ⟨_, _, rfl, by linarith, hc, hb⟩
  · exact ⟨_, _, rfl, by linarith, ha, not_le.1 hc⟩

theorem halve_iterate {l : Row} {d : ℝ} {p : EReal × EReal} (h : Around l d p) (n : Nat) : Around l (d / 2 ^ n) ((halve l)^[n] p) := by
  induction n with
  | zero => simpa using h
  | succ n ih =>
    rw [Function.iterate_succ_apply', pow_succ, ← div_div]
    exact halve_around ih

/-- The bracket that the search starts from. -/
theorem bracket_around {l : Row} {f : Fin 1000 → ℝ} (hl : ∀ k, l k = (f k : EReal)) :
    Around l (f (first (flip l)) - f (first l) + 2) (bracket l) := by
  refine ⟨f (first l) - 1, f (first (flip l)) + 1, ?_, by ring, ?_, ?_⟩
  · unfold bracket
    rw [hl, hl, one_real, ← EReal.coe_sub, ← EReal.coe_add]
  · have : (Finset.univ.filter fun k => ((f (first l) - 1 : ℝ) : EReal) ≤ l k) = Finset.univ := by
      refine Finset.filter_true_of_mem fun k _ => ?_
      have h := (first_isFirst l).1 k
      rw [hl, hl k, EReal.coe_le_coe_iff] at h
      rw [hl k, EReal.coe_le_coe_iff]
      linarith
    unfold count
    rw [this]
    simp
  · have : (Finset.univ.filter fun k => ((f (first (flip l)) + 1 : ℝ) : EReal) ≤ l k) = ∅ := by
      refine Finset.filter_false_of_mem fun k _ hk => ?_
      have h : l k ≤ l (first (flip l)) := (first_isFirst (flip l)).1 k
      rw [hl (first (flip l)), hl k, EReal.coe_le_coe_iff] at h
      rw [hl k, EReal.coe_le_coe_iff] at hk
      linarith
    unfold count
    rw [this]
    simp

/-- The width of the bracket after 48 halvings, of a finite row. -/
theorem tol_real {l : Row} {f : Fin 1000 → ℝ} (hl : ∀ k, l k = (f k : EReal)) :
    tol l = (((f (first (flip l)) - f (first l) + 2) / 2 ^ 48 : ℝ) : EReal) := by
  unfold tol
  rw [hl, hl, two_real, width_real, ← EReal.coe_sub, ← EReal.coe_add, ← EReal.coe_mul, mul_one_div]

/-- The entries the search keeps are those at the 64th greatest or over. -/
theorem keep_cut {l : Row} {θ : EReal} (hθ : IsKth θ l) {f : Fin 1000 → ℝ} (hl : ∀ k, l k = (f k : EReal))
    (hg : ∀ k, θ ≤ l k ∨ l k + tol l ≤ θ) : keep (cut l) l = keep θ l := by
  obtain ⟨a, b, hp, hd, ha, hb⟩ := halve_iterate (bracket_around hl) 48
  have hcut : cut l = (a : EReal) := congrArg Prod.fst hp
  have htol : tol l = ((b - a : ℝ) : EReal) := (tol_real hl).trans (congrArg Real.toEReal hd.symm)
  have h1 := hθ.le_of_count ha
  have h2 := hθ.lt_of_count hb
  funext k
  unfold keep
  rw [hcut]
  by_cases hk : θ ≤ l k
  · rw [if_pos hk, if_pos (h1.trans hk)]
  · rw [if_neg hk, if_neg]
    have h := ((hg k).resolve_left hk).trans_lt h2
    rw [htol, hl k, ← EReal.coe_add, EReal.coe_lt_coe_iff] at h
    rw [hl k, EReal.coe_le_coe_iff]
    linarith

end Cert.Spec
-- ==== Proof.PreRows.lean ====
/- What the precondition says, row by row, of one prior: every entry is finite, and every entry under the row's 64th greatest is under
   it by the width of the bracket after 48 halvings. -/
module

public import proofs.«01_k».proof.Proof.PreFacts
public import proofs.«01_k».proof.Proof.Bisect
public import proofs.«01_k».proof.Proof.RefKeep
public import Idealize.ShloMosaic.Lib.IdealHost
public import Idealize.ShloMosaic.Lib.KernelVsHost

@[expose] public section

noncomputable section

namespace Cert.Spec

open Idealize.ShloMosaic

/-- The search and the 64th greatest entry keep the same entries of every row of a prior. -/
def Clear (p : Fin 1000 → Row) : Prop := ∀ r, keep (cut (p r)) (p r) = top (p r)

/-- Where two ways to filter agree on every row of both priors, the answers agree. -/
theorem answer_eq (x : Frames) (cb : Codes) (p0 p1 : Fin 1000 → Row) (u0 u1 : Fin 32 → Fin 1024 → Row) (h0 : Clear p0) (h1 : Clear p1) :
    answer (fun l => keep (cut l) l) x cb p0 p1 u0 u1 = answer top x cb p0 p1 u0 u1 := by
  have e : ∀ (p : Fin 1000 → Row) (u : Fin 32 → Fin 1024 → Row), Clear p →
      token (fun l => keep (cut l) l) x cb p u = token top x cb p u := by
    intro p u h
    funext a i
    unfold token
    exact congrArg (fun f => draw f (u a i)) (h _)
  unfold answer
  rw [e p0 u0 h0, e p1 u1 h1]

end Cert.Spec

namespace Cert.Pre_gap

open Idealize.ShloMosaic Idealize.ShloMosaic.ValueIdx Cert.Arg Cert.Rows Cert.Spec
open Facts

/-- The 64th greatest entry of each row, as the precondition takes it. -/
def kthCol (p : FVec Ideal S1000x1000 .f32) : FVec Ideal S1000x1 .f32 :=
  extractStridedSlice S1000x1 ![0, 63] (Host.topK S1000x64 1 (FloatOps.cmpfTotal .gt) p sliceFits_S1000x1000_S1000x64).1 slices_S1000x64_S1000x1_0_63

/-- The bracket's width for each row, as the precondition takes it. -/
def tolCol (p : FVec Ideal S1000x1000 .f32) : FVec Ideal S1000x1 .f32 :=
  mulf (addf (subf
      (broadcastInDim S1000x1 ![0] bcast_S1000_S1000x1_0
        (Host.reduce FloatOps.maximumf p (constant S_ .f32 0xFF800000#32) reducesTo_S1000x1000_S1000_d1 h_S_))
      (broadcastInDim S1000x1 ![0] bcast_S1000_S1000x1_0
        (Host.reduce FloatOps.minimumf p (constant S_ .f32 0x7F800000#32) reducesTo_S1000x1000_S1000_d1 h_S_)))
    (broadcastInDim S1000x1 ![] bcast_S_S1000x1 (constant S_ .f32 0x40000000#32)))
    (broadcastInDim S1000x1 ![] bcast_S_S1000x1 (constant S_ .f32 0x27800000#32))

/-- The mask of one prior, over its threshold column and its width column. -/
def mask (p : FVec Ideal S1000x1000 .f32) (θ w : FVec Ideal S1000x1 .f32) : IVec S1000x1000 1 :=
  andi (cmpf .olt (Host.absf p) (broadcastInDim S1000x1000 ![] bcast_S_S1000x1000 (constant S_ .f32 0x7F800000#32)))
    (ori (cmpf .oge p (broadcastInDim S1000x1000 ![0, 1] bcast_S1000x1_S1000x1000_0_1 θ))
      (cmpf .ole (addf p (broadcastInDim S1000x1000 ![0, 1] bcast_S1000x1_S1000x1000_0_1 w))
        (broadcastInDim S1000x1000 ![0, 1] bcast_S1000x1_S1000x1000_0_1 θ)))

theorem fn_eq (a0 : FVec Ideal S65536 .f32) (a1 a2 : FVec Ideal S32x1024x1000 .f32) (a3 : FVec Ideal S1000x64 .f32)
    (p0 p1 : FVec Ideal S1000x1000 .f32) :
    fn a0 a1 a2 a3 p0 p1 = andi (mask p0 (kthCol p0) (tolCol p0)) (mask p1 (kthCol p1) (tolCol p1)) := rfl

theorem kthCol_apply (p : FVec Ideal S1000x1000 .f32) (r : Fin 1000) : kthCol p (ix2 r 0) = kth (at2 p r) := by
  have hk := topK_apply p sliceFits_S1000x1000_S1000x64 r 63 rfl
  unfold kthCol
  generalize (Host.topK S1000x64 1 (FloatOps.cmpfTotal .gt) p sliceFits_S1000x1000_S1000x64).1 = v at hk ⊢
  rw [extractStridedSlice_apply _ v slices_S1000x64_S1000x1_0_63 (ix2 r 0) (ix2 r 63) (fun a => by match a with | 0 => exact (Nat.zero_add _).symm | 1 => rfl)]
  exact hk.eq (isKth_kth _)

theorem tolCol_apply (p : FVec Ideal S1000x1000 .f32) (r : Fin 1000) : tolCol p (ix2 r 0) = tol (at2 p r) := by
  have hcol : ∀ v : FVec Ideal S1000 .f32, broadcastInDim S1000x1 ![0] bcast_S1000_S1000x1_0 v (ix2 r 0) = v (ix1 r) := fun v =>
    broadcastInDim_apply _ _ v (ix2 r 0) (ix1 r) (fun a => by match a with | 0 => rfl)
  have hr : Shape.Reduces S1000x1000 [1] S1000 := by decide
  have hmax : Host.reduce FloatOps.maximumf p (constant S_ .f32 0xFF800000#32) reducesTo_S1000x1000_S1000_d1 h_S_ (ix1 r)
      = p (ix2 r (first (flip fun k => p (ix2 r k)))) :=
    (congrFun (hostReduce_maximumf_eq_multiReduction p 0xFF800000#32 reducesTo_S1000x1000_S1000_d1 h_S_ hr (by decide) rfl) _).trans
      (row_max p hr _ _ r)
  have hmin : Host.reduce FloatOps.minimumf p (constant S_ .f32 0x7F800000#32) reducesTo_S1000x1000_S1000_d1 h_S_ (ix1 r)
      = p (ix2 r (first fun k => p (ix2 r k))) :=
    (congrFun (hostReduce_minimumf_eq_multiReduction p 0x7F800000#32 reducesTo_S1000x1000_S1000_d1 h_S_ hr (by decide) rfl) _).trans
      (row_min p hr _ _ r)
  unfold tolCol
  rw [mulf_apply, addf_apply, subf_apply, hcol, hcol, broadcastInDim_scalar_apply, broadcastInDim_scalar_apply, constant_apply, constant_apply, hmax, hmin]
  rfl

theorem mask_apply (p : FVec Ideal S1000x1000 .f32) (θ w : FVec Ideal S1000x1 .f32) (r k : Fin 1000) (h : mask p θ w (ix2 r k) = 1#1) :
    max (p (ix2 r k)) (-p (ix2 r k)) < ⊤ ∧ (θ (ix2 r 0) ≤ p (ix2 r k) ∨ p (ix2 r k) + w (ix2 r 0) ≤ θ (ix2 r 0)) := by
  have hrow : ∀ v : FVec Ideal S1000x1 .f32, broadcastInDim S1000x1000 ![0, 1] bcast_S1000x1_S1000x1000_0_1 v (ix2 r k) = v (ix2 r 0) := fun v =>
    broadcastInDim_apply _ _ v (ix2 r k) (ix2 r 0) (fun a => by match a with | 0 => rfl | 1 => rfl)
  have hand : ∀ a b : BitVec 1, IntOp.andi a b = 1#1 → a = 1#1 ∧ b = 1#1 := by decide
  have hor : ∀ a b : BitVec 1, IntOp.ori a b = 1#1 → a = 1#1 ∨ b = 1#1 := by decide
  have hd : ∀ (P : Prop) [Decidable P], BitVec.ofBool (decide P) = 1#1 → P := fun P _ hP => by
    by_contra hc
    simp [hc] at hP
  have htop : broadcastInDim S1000x1000 ![] bcast_S_S1000x1000 (constant (F := Ideal) S_ .f32 0x7F800000#32) (ix2 r k) = (⊤ : EReal) := by
    rw [broadcastInDim_scalar_apply, constant_apply, top_f32]
  obtain ⟨h1, h2⟩ := hand _ _ h
  refine ⟨?_, ?_⟩
  · rw [cmpf_apply, Ideal.cmpf_def, htop] at h1
    exact hd _ h1
  · rcases hor _ _ h2 with h3 | h3
    · rw [cmpf_apply, Ideal.cmpf_def, hrow] at h3
      exact Or.inl (hd _ h3)
    · rw [cmpf_apply, Ideal.cmpf_def, addf_apply, hrow, hrow] at h3
      exact Or.inr (hd _ h3)

/-- A prior whose mask is set everywhere is clear. -/
theorem clear_of_mask (p : FVec Ideal S1000x1000 .f32) (h : ∀ j, mask p (kthCol p) (tolCol p) j = 1#1) : Clear (at2 p) := by
  intro r
  have hm := fun k => mask_apply p _ _ r k (h (ix2 r k))
  have hf : ∀ k, at2 p r k = (((at2 p r k).toReal : ℝ) : EReal) := fun k =>
    (EReal.coe_toReal (ne_of_lt ((le_max_left _ _).trans_lt (hm k).1)) (fun hb => by
      have := (le_max_right _ _).trans_lt (hm k).1
      rw [hb] at this
      simp at this)).symm
  refine keep_cut (isKth_kth _) hf fun k => ?_
  have := (hm k).2
  rw [kthCol_apply, tolCol_apply] at this
  exact this

/-- The precondition's mask is set everywhere only if both priors are clear. -/
theorem clear_of_pre (a0 : FVec Ideal S65536 .f32) (a1 a2 : FVec Ideal S32x1024x1000 .f32) (a3 : FVec Ideal S1000x64 .f32)
    (p0 p1 : FVec Ideal S1000x1000 .f32) (h : fn a0 a1 a2 a3 p0 p1 = fun _ => 1#1) : Clear (at2 p0) ∧ Clear (at2 p1) := by
  have hand : ∀ a b : BitVec 1, IntOp.andi a b = 1#1 → a = 1#1 ∧ b = 1#1 := by decide
  rw [fn_eq] at h
  exact ⟨clear_of_mask p0 fun j => (hand _ _ (congrFun h j)).1, clear_of_mask p1 fun j => (hand _ _ (congrFun h j)).2⟩

end Cert.Pre_gap
-- ==== Proof.Equal.lean ====
/- The equation: under the precondition the kernel's result is the reference's. -/
module

public import proofs.«01_k».proof.Proof.KernelValue
public import proofs.«01_k».proof.Proof.RefResult
public import proofs.«01_k».proof.Proof.PreRows

@[expose] public section

noncomputable section

namespace Cert.Equal

open Idealize.ShloMosaic Cert.KernelIdeal

/-- Every index of the result is a source and a sample of a frame. -/
theorem split_sample (j : Fin 65536) : ∃ (i : Fin 1024) (k : Fin 64), j.val = i.val * 64 + k.val :=
  ⟨⟨j.val / 64, by omega⟩, ⟨j.val % 64, by omega⟩, by show j.val = j.val / 64 * 64 + j.val % 64; omega⟩

/-- Where the priors pass the precondition, the array the kernel leaves is the reference's result of the same arguments. -/
theorem result_eq (m : (ℓ : Loc nD τ sig) → Buf (Elt Ideal) ℓ) (ρ : Dev nD → PrngReg) (c : Dev nD)
    (h : Cert.Pre_gap.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.KernelIdeal.Gen.W6 m ρ c (Proc.devRef .tc main_v5)
      = Cert.ReferenceIdeal.Line.result (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) := by
  obtain ⟨h0, h1⟩ := Cert.Pre_gap.clear_of_pre _ _ _ _ _ _ h
  funext j
  obtain ⟨i, k, hj⟩ := split_sample (j 1)
  have ej : j = ValueIdx.ix2 (j 0) (j 1) := ValueIdx.eq_ix2 j
  rw [ej]
  refine (Cert.KernelIdeal.Value.result_apply m ρ c (j 0) i k (j 1) hj).trans ?_
  refine Eq.trans ?_ (Cert.ReferenceIdeal.Line.result_apply _ _ _ _ _ _ (j 0) i k (j 1) hj).symm
  exact congrFun (congrFun (congrFun (Cert.Spec.answer_eq _ _ _ _ _ _ h0 h1) _) _) _

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From memories that agree on the arguments and pass the precondition, the kernel and the reference end with equal results. -/
theorem algebraic : algebraic_KernelIdeal_ReferenceIdeal_pre_gap := by
  intro m g m' g' hpre hagree
  refine ⟨fun c => Cert.KernelIdeal.Gen.W6 m g c (Proc.devRef .tc Cert.KernelIdeal.main_v5),
    (θ_run _ _ _).mono (fun _ h => h.1) (Cert.KernelIdeal.Value.run_result m g),
    (θ_run _ _ _).mono (fun _ h c => ⟨?_, (h.1 c).2⟩) (Cert.ReferenceIdeal.Line.run_result m' g')⟩
  obtain ⟨h0, h1, h2, h3, h4, h5⟩ := hagree c
  refine (h.1 c).1.trans ?_
  rw [h0, h1, h2, h3, h4, h5]
  exact (Cert.Equal.result_eq m g c (hpre c)).symm

/-- The kernel and the reference terminate with their arguments unchanged and every counter at zero, the kernel is the same program
    at both readings, and under the precondition its result is the reference's. -/
theorem claim : Cert.Claim := ⟨Cert.Kernel.Gen.facts, Cert.KernelIdeal.Gen.facts, Cert.ReferenceIdeal.Gen.facts, Cert.Pre_gap.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun _ h => ⟨fun c => (h.1 c).2, h.2⟩) (Cert.ReferenceIdeal.Line.run_result m ρ),
  fun m ρ _ => (θ_run _ _ _).mono (fun _ h => ⟨fun c => (h.1 c).2, h.2⟩) (Cert.ReferenceIdeal.Line.run_result m ρ),
  trivial,
  algebraic⟩

end Cert.Proof

end
